-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_banded [hPre_finite_banded : Cert.Pre_finite_banded.Facts] (m : (ℓ : Loc Cert.SwaIdeal.nD Cert.SwaIdeal.τ Cert.SwaIdeal.sig) → Buf (Elt Ideal) ℓ) : Prop :=
  ∀ c : Dev Cert.SwaIdeal.nD,
    (Cert.Pre_finite_banded.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).1 = (fun _ => 1#1)
    ∧ (Cert.Pre_finite_banded.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.1 = (fun _ => 1#1)
    ∧ (Cert.Pre_finite_banded.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.2.1 = (fun _ => 1#1)
    ∧ (Cert.Pre_finite_banded.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_banded [hPre_finite_banded : Cert.Pre_finite_banded.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_banded.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).1 = (fun _ => 1#1)
    ∧ (Cert.Pre_finite_banded.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.1 = (fun _ => 1#1)
    ∧ (Cert.Pre_finite_banded.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.2.1 = (fun _ => 1#1)
    ∧ (Cert.Pre_finite_banded.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.2.2 = (fun _ => 1#1)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_finite_banded [hSwaIdeal : Cert.SwaIdeal.Facts] [hPre_finite_banded : Cert.Pre_finite_banded.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_banded m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_finite_banded [hSwaRefIdeal : Cert.SwaRefIdeal.Facts] [hPre_finite_banded : Cert.Pre_finite_banded.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_banded m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v15)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v15) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v30) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Mix_MixIdeal : Prop :=
  IdealRules.bf16_pair.BufferStatement Cert.MixIdeal.S16x16384x2x128 Cert.MixIdeal.S16x16384x1x128
  ∧ IdealRules.bf16_pair.BufferStatement Cert.MixIdeal.S1x4096x2x128 Cert.MixIdeal.S1x4096x1x128
  ∧ IdealRules.bf16_pair.Statement Cert.MixIdeal.S256x2x128 Cert.MixIdeal.S256x1x128
  ∧ IdealRules.bf16_pack.Statement Cert.MixIdeal.S256x128

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v27_0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v27_0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v75) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def preserves_Bias_BiasIdeal : Prop :=
  IdealRules.named_const.Statement Cert.BiasIdeal.κ "mask" .f32 0xF149F2CA#32 ⊥

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v53) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def preserves_Swa_SwaIdeal : Prop :=
  True

def algebraic_SwaIdeal_SwaRefIdeal_pre_finite_banded [hSwaIdeal : Cert.SwaIdeal.Facts] [hSwaRefIdeal : Cert.SwaRefIdeal.Facts] [hPre_finite_banded : Cert.Pre_finite_banded.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_banded m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v90) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def Claim : Prop :=
  ∃ (hQkv : Cert.Qkv.Facts) (hQkvIdeal : Cert.QkvIdeal.Facts) (hQkvRefIdeal : Cert.QkvRefIdeal.Facts) (hAda : Cert.Ada.Facts) (hAdaIdeal : Cert.AdaIdeal.Facts) (hAdaRefIdeal : Cert.AdaRefIdeal.Facts) (hMix : Cert.Mix.Facts) (hMixIdeal : Cert.MixIdeal.Facts) (hMixRefIdeal : Cert.MixRefIdeal.Facts) (hBias : Cert.Bias.Facts) (hBiasIdeal : Cert.BiasIdeal.Facts) (hBiasRefIdeal : Cert.BiasRefIdeal.Facts) (hSwa : Cert.Swa.Facts) (hSwaIdeal : Cert.SwaIdeal.Facts) (hSwaRefIdeal : Cert.SwaRefIdeal.Facts) (hPre_finite_banded : Cert.Pre_finite_banded.Facts),
    quiescent_Qkv (hQkv := hQkv)
    ∧ quiescent_QkvIdeal (hQkvIdeal := hQkvIdeal)
    ∧ quiescent_QkvRefIdeal (hQkvRefIdeal := hQkvRefIdeal)
    ∧ quiescent_Ada (hAda := hAda)
    ∧ quiescent_AdaIdeal (hAdaIdeal := hAdaIdeal)
    ∧ quiescent_AdaRefIdeal (hAdaRefIdeal := hAdaRefIdeal)
    ∧ quiescent_Mix (hMix := hMix)
    ∧ quiescent_MixIdeal (hMixIdeal := hMixIdeal)
    ∧ quiescent_MixRefIdeal (hMixRefIdeal := hMixRefIdeal)
    ∧ quiescent_Bias (hBias := hBias)
    ∧ quiescent_BiasIdeal (hBiasIdeal := hBiasIdeal)
    ∧ quiescent_BiasRefIdeal (hBiasRefIdeal := hBiasRefIdeal)
    ∧ quiescent_Swa (hSwa := hSwa)
    ∧ quiescent_SwaIdeal (hSwaIdeal := hSwaIdeal)
    ∧ quiescent_SwaIdeal_pre_finite_banded (hSwaIdeal := hSwaIdeal) (hPre_finite_banded := hPre_finite_banded)
    ∧ quiescent_SwaRefIdeal (hSwaRefIdeal := hSwaRefIdeal)
    ∧ quiescent_SwaRefIdeal_pre_finite_banded (hSwaRefIdeal := hSwaRefIdeal) (hPre_finite_banded := hPre_finite_banded)
    ∧ preserves_Qkv_QkvIdeal
    ∧ algebraic_QkvIdeal_QkvRefIdeal (hQkvIdeal := hQkvIdeal) (hQkvRefIdeal := hQkvRefIdeal)
    ∧ preserves_Ada_AdaIdeal
    ∧ algebraic_AdaIdeal_AdaRefIdeal (hAdaIdeal := hAdaIdeal) (hAdaRefIdeal := hAdaRefIdeal)
    ∧ preserves_Mix_MixIdeal
    ∧ algebraic_MixIdeal_MixRefIdeal (hMixIdeal := hMixIdeal) (hMixRefIdeal := hMixRefIdeal)
    ∧ preserves_Bias_BiasIdeal
    ∧ algebraic_BiasIdeal_BiasRefIdeal (hBiasIdeal := hBiasIdeal) (hBiasRefIdeal := hBiasRefIdeal)
    ∧ preserves_Swa_SwaIdeal
    ∧ algebraic_SwaIdeal_SwaRefIdeal_pre_finite_banded (hSwaIdeal := hSwaIdeal) (hSwaRefIdeal := hSwaRefIdeal) (hPre_finite_banded := hPre_finite_banded)
-- ==== Pre_finite_banded.lean ====
abbrev S16x2048x4352 : Shape := ⟨3, ![16, 2048, 4352]⟩
abbrev S16 : Shape := ⟨1, ![16]⟩
abbrev S2x16x128x256 : Shape := ⟨4, ![2, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S2x128x256 : Shape := ⟨3, ![2, 128, 256]⟩
abbrev S2x1x128x256 : Shape := ⟨4, ![2, 1, 128, 256]⟩
abbrev S16x2048x1152 : Shape := ⟨3, ![16, 2048, 1152]⟩

class Facts : Prop where
  bcast_S128_S128x1_0 : S128.BroadcastsInDim S128x1 (![0] : Fin 1 → Fin S128x1.rank)
  bcast_S256_S1x256_1 : S256.BroadcastsInDim S1x256 (![1] : Fin 1 → Fin S1x256.rank)
  bcast_S_S128x1 : S_.BroadcastsInDim S128x1 (![] : Fin 0 → Fin S128x1.rank)
  bcast_S128x1_S128x256_0_1 : S128x1.BroadcastsInDim S128x256 (![0, 1] : Fin 2 → Fin S128x256.rank)
  bcast_S1x256_S128x256_0_1 : S1x256.BroadcastsInDim S128x256 (![0, 1] : Fin 2 → Fin S128x256.rank)
  bcast_S_S128x256 : S_.BroadcastsInDim S128x256 (![] : Fin 0 → Fin S128x256.rank)
  bcast_S_S1x256 : S_.BroadcastsInDim S1x256 (![] : Fin 0 → Fin S1x256.rank)
  bcast_S128x256_S1x128x256_1_2 : S128x256.BroadcastsInDim S1x128x256 (![1, 2] : Fin 2 → Fin S1x128x256.rank)
  concatenates_S1x128x256_S1x128x256_S2x128x256_d0 : Shape.Concatenates [S1x128x256, S1x128x256] S2x128x256 0
  bcast_S2x128x256_S2x1x128x256_0_2_3 : S2x128x256.BroadcastsInDim S2x1x128x256 (![0, 2, 3] : Fin 3 → Fin S2x1x128x256.rank)
  slices_S16x2048x4352_S16x2048x1152_0_0_3072 : S16x2048x4352.Slices ![0, 0, 3072] S16x2048x1152
  bitsLt_bf16_f32 : FTy.bits .bf16 < FTy.bits .f32
  bcast_S_S16x2048x1152 : S_.BroadcastsInDim S16x2048x1152 (![] : Fin 0 → Fin S16x2048x1152.rank)
  bcast_S_S16 : S_.BroadcastsInDim S16 (![] : Fin 0 → Fin S16.rank)
  bcast_S_S2x16x128x256 : S_.BroadcastsInDim S2x16x128x256 (![] : Fin 0 → Fin S2x16x128x256.rank)
  bcast_S2x1x128x256_S2x16x128x256_0_1_2_3 : S2x1x128x256.BroadcastsInDim S2x16x128x256 (![0, 1, 2, 3] : Fin 4 → Fin S2x16x128x256.rank)

variable [Facts]

def fn_part1 {F : FTy → Type} [FloatOps F] (main_arg0 : FVec F S16x2048x4352 .bf16) (main_arg1 : FVec F S16 .f32) (main_arg2 : FVec F S2x16x128x256 .f32) (main_v18 : IVec S1x128x256 1) (main_v19 : IVec S1x128x256 1) : IVec S16x2048x1152 1 × IVec S16 1 × IVec S2x16x128x256 1 × IVec S2x16x128x256 1 :=
  let main_v20 : IVec S2x128x256 1 := (fun a b => concatenate S2x128x256 0 [⟨S1x128x256, a⟩, ⟨S1x128x256, b⟩] concatenates_S1x128x256_S1x128x256_S2x128x256_d0) main_v18 main_v19
  let main_v21 : IVec S2x1x128x256 1 := broadcastInDim S2x1x128x256 ![0, 2, 3] bcast_S2x128x256_S2x1x128x256_0_2_3 main_v20
  let main_v22 : FVec F S16x2048x1152 .bf16 := (extractStridedSlice S16x2048x1152 ![0, 0, 3072] · slices_S16x2048x4352_S16x2048x1152_0_0_3072) main_arg0
  let main_v23 : FVec F S16x2048x1152 .f32 := (extf .f32 · bitsLt_bf16_f32) main_v22
  let main_v24 : FVec F S16x2048x1152 .f32 := Host.absf main_v23
  let main_cst : FVec F S_ .f32 := constant S_ .f32 0x7F800000#32
  let main_v25 : FVec F S16x2048x1152 .f32 := broadcastInDim S16x2048x1152 ![] bcast_S_S16x2048x1152 main_cst
  let main_v26 : IVec S16x2048x1152 1 := cmpf .olt main_v24 main_v25
  let main_v27 : FVec F S16 .f32 := Host.absf main_arg1
  let main_cst_3 : FVec F S_ .f32 := constant S_ .f32 0x7F800000#32
  let main_v28 : FVec F S16 .f32 := broadcastInDim S16 ![] bcast_S_S16 main_cst_3
  let main_v29 : IVec S16 1 := cmpf .olt main_v27 main_v28
  let main_cst_4 : FVec F S_ .f32 := constant S_ .f32 0x7F800000#32
  let main_v30 : FVec F S2x16x128x256 .f32 := broadcastInDim S2x16x128x256 ![] bcast_S_S2x16x128x256 main_cst_4
  let main_v31 : IVec S2x16x128x256 1 := cmpf .olt main_arg2 main_v30
  let main_cst_5 : FVec F S_ .f32 := constant S_ .f32 0xFF800000#32
  let main_v32 : FVec F S2x16x128x256 .f32 := broadcastInDim S2x16x128x256 ![] bcast_S_S2x16x128x256 main_cst_5
  let main_v33 : IVec S2x16x128x256 1 := cmpf .oeq main_arg2 main_v32
  let main_v34 : IVec S2x16x128x256 1 := broadcastInDim S2x16x128x256 ![0, 1, 2, 3] bcast_S2x1x128x256_S2x16x128x256_0_1_2_3 main_v21
  let main_v35 : IVec S2x16x128x256 1 := ori main_v34 main_v33
  (main_v26, main_v29, main_v31, main_v35)

def fn {F : FTy → Type} [FloatOps F] (main_arg0 : FVec F S16x2048x4352 .bf16) (main_arg1 : FVec F S16 .f32) (main_arg2 : FVec F S2x16x128x256 .f32) : IVec S16x2048x1152 1 × IVec S16 1 × IVec S2x16x128x256 1 × IVec S2x16x128x256 1 :=
  let main_v0 : IVec S128 32 := iotaInDim S128 32 0
  let main_v1 : IVec S128x1 32 := broadcastInDim S128x1 ![0] bcast_S128_S128x1_0 main_v0
  let main_v2 : IVec S256 32 := iotaInDim S256 32 0
  let main_v3 : IVec S1x256 32 := broadcastInDim S1x256 ![1] bcast_S256_S1x256_1 main_v2
  let main_c : IVec S_ 32 := constantI S_ 32 128#32
  let main_v4 : IVec S128x1 32 := broadcastInDim S128x1 ![] bcast_S_S128x1 main_c
  let main_v5 : IVec S128x1 32 := addi main_v1 main_v4
  let main_v6 : IVec S128x256 32 := broadcastInDim S128x256 ![0, 1] bcast_S128x1_S128x256_0_1 main_v5
  let main_v7 : IVec S128x256 32 := broadcastInDim S128x256 ![0, 1] bcast_S1x256_S128x256_0_1 main_v3
  let main_v8 : IVec S128x256 32 := subi main_v6 main_v7
  let main_c_0 : IVec S_ 32 := constantI S_ 32 0#32
  let main_v9 : IVec S128x256 32 := broadcastInDim S128x256 ![] bcast_S_S128x256 main_c_0
  let main_v10 : IVec S128x256 1 := cmpi .sge main_v8 main_v9
  let main_c_1 : IVec S_ 32 := constantI S_ 32 128#32
  let main_v11 : IVec S128x256 32 := broadcastInDim S128x256 ![] bcast_S_S128x256 main_c_1
  let main_v12 : IVec S128x256 1 := cmpi .slt main_v8 main_v11
  let main_v13 : IVec S128x256 1 := andi main_v10 main_v12
  let main_c_2 : IVec S_ 32 := constantI S_ 32 128#32
  let main_v14 : IVec S1x256 32 := broadcastInDim S1x256 ![] bcast_S_S1x256 main_c_2
  let main_v15 : IVec S1x256 1 := cmpi .sge main_v3 main_v14
  let main_v16 : IVec S128x256 1 := broadcastInDim S128x256 ![0, 1] bcast_S1x256_S128x256_0_1 main_v15
  let main_v17 : IVec S128x256 1 := andi main_v13 main_v16
  let main_v18 : IVec S1x128x256 1 := broadcastInDim S1x128x256 ![1, 2] bcast_S128x256_S1x128x256_1_2 main_v17
  let main_v19 : IVec S1x128x256 1 := broadcastInDim S1x128x256 ![1, 2] bcast_S128x256_S1x128x256_1_2 main_v13
  fn_part1 (F := F) main_arg0 main_arg1 main_arg2 main_v18 main_v19
-- ==== Qkv.lean ====
abbrev S16x2048x2048 : Shape := ⟨3, ![16, 2048, 2048]⟩
abbrev S16x12288 : Shape := ⟨2, ![16, 12288]⟩
abbrev S1x2048x4352 : Shape := ⟨3, ![1, 2048, 4352]⟩
abbrev S16x6x2048 : Shape := ⟨3, ![16, 6, 2048]⟩
abbrev S2048x4352 : Shape := ⟨2, ![2048, 4352]⟩
abbrev S2048x1024 : Shape := ⟨2, ![2048, 1024]⟩
abbrev S_ : Shape := ⟨0, ![]⟩
abbrev S2048x2048 : Shape := ⟨2, ![2048, 2048]⟩
abbrev S2048x2x8x64 : Shape := ⟨4, ![2048, 2, 8, 64]⟩
abbrev S2048x8x2x64 : Shape := ⟨4, ![2048, 8, 2, 64]⟩
abbrev S2048x256 : Shape := ⟨2, ![2048, 256]⟩
abbrev S16x2048x4352 : Shape := ⟨3, ![16, 2048, 4352]⟩
abbrev S1x512x2048 : Shape := ⟨3, ![1, 512, 2048]⟩
abbrev S1x6x2048 : Shape := ⟨3, ![1, 6, 2048]⟩
abbrev S2048x2176 : Shape := ⟨2, ![2048, 2176]⟩
abbrev S1x512x2176 : Shape := ⟨3, ![1, 512, 2176]⟩
abbrev S1x1x2048 : Shape := ⟨3, ![1, 1, 2048]⟩
abbrev S1x2048 : Shape := ⟨2, ![1, 2048]⟩
abbrev S512x2048 : Shape := ⟨2, ![512, 2048]⟩
abbrev S512x2176 : Shape := ⟨2, ![512, 2176]⟩

abbrev nBuf : Space → Nat
  | .hbm => 21
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S16x12288, .f32⟩
  | .hbm, ⟨2, _⟩ => ⟨S1x2048x4352, .f32⟩
  | .hbm, ⟨3, _⟩ => ⟨S16x6x2048, .f32⟩
  | .hbm, ⟨4, _⟩ => ⟨S2048x4352, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x2048, .f32⟩
  | .hbm, ⟨10, _⟩ => ⟨S2048x1024, .f32⟩
  | .hbm, ⟨11, _⟩ => ⟨S2048x2x8x64, .f32⟩
  | .hbm, ⟨12, _⟩ => ⟨S2048x8x2x64, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x256, .f32⟩
  | .hbm, ⟨18, _⟩ => ⟨S2048x4352, .f32⟩
  | .hbm, ⟨19, _⟩ => ⟨S2048x4352, .bf16⟩
  | .hbm, ⟨20, _⟩ => ⟨S16x2048x4352, .bf16⟩
  | .local _ .vmem, ⟨0, _⟩ => ⟨S1x512x2048, .f32⟩
  | .local _ .vmem, ⟨1, _⟩ => ⟨S1x512x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x2176, .bf16⟩
  | .local _ .vmem, ⟨5, _⟩ => ⟨S2048x2176, .bf16⟩
  | .local _ .vmem, ⟨6, _⟩ => ⟨S1x512x2176, .bf16⟩
  | .local _ .vmem, ⟨7, _⟩ => ⟨S1x512x2176, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== QkvRefIdeal.lean ====
abbrev S16x2048x2048 : Shape := ⟨3, ![16, 2048, 2048]⟩
abbrev S16x12288 : Shape := ⟨2, ![16, 12288]⟩
abbrev S1x2048x4352 : Shape := ⟨3, ![1, 2048, 4352]⟩
abbrev S16x2048 : Shape := ⟨2, ![16, 2048]⟩
abbrev S16x1x2048 : Shape := ⟨3, ![16, 1, 2048]⟩
abbrev S_ : Shape := ⟨0, ![]⟩
abbrev S2048x4352 : Shape := ⟨2, ![2048, 4352]⟩
abbrev S16x2048x4352 : Shape := ⟨3, ![16, 2048, 4352]⟩
abbrev S16x2048x1024 : Shape := ⟨3, ![16, 2048, 1024]⟩
abbrev S16x2048x128 : Shape := ⟨3, ![16, 2048, 128]⟩
abbrev S16x2048x2x8x64 : Shape := ⟨5, ![16, 2048, 2, 8, 64]⟩
abbrev S16x2048x8x2x64 : Shape := ⟨5, ![16, 2048, 8, 2, 64]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x12288, .f32⟩
  | .hbm, ⟨2, _⟩ => ⟨S1x2048x4352, .f32⟩
  | .hbm, ⟨3, _⟩ => ⟨S16x2048, .f32⟩
  | .hbm, ⟨4, _⟩ => ⟨S16x2048, .f32⟩
  | .hbm, ⟨5, _⟩ => ⟨S16x2048, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S16x1x2048, .f32⟩
  | .hbm, ⟨10, _⟩ => ⟨S16x1x2048, .f32⟩
  | .hbm, ⟨11, _⟩ => ⟨S_, .f32⟩
  | .hbm, ⟨12, _⟩ => ⟨S16x1x2048, .f32⟩
  | .hbm, ⟨13, _⟩ => ⟨S16x1x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S2048x4352, .f32⟩
  | .hbm, ⟨19, _⟩ => ⟨S16x2048x4352, .f32⟩
  | .hbm, ⟨20, _⟩ => ⟨S16x2048x1024, .f32⟩
  | .hbm, ⟨21, _⟩ => ⟨S16x2048x128, .f32⟩
  | .hbm, ⟨22, _⟩ => ⟨S16x2048x128, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x2x8x64, .f32⟩
  | .hbm, ⟨27, _⟩ => ⟨S16x2048x8x2x64, .f32⟩
  | .hbm, ⟨28, _⟩ => ⟨S16x2048x1024, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048x1024, .f32⟩
  | .hbm, ⟨34, _⟩ => ⟨S16x2048x1024, .f32⟩
  | .hbm, ⟨35, _⟩ => ⟨S16x2048x4352, .f32⟩
  | .hbm, ⟨36, _⟩ => ⟨S16x2048x4352, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Ada.lean ====
abbrev S16x2048 : Shape := ⟨2, ![16, 2048]⟩
abbrev S1x2048x12288 : Shape := ⟨3, ![1, 2048, 12288]⟩
abbrev S1x12288 : Shape := ⟨2, ![1, 12288]⟩
abbrev S16x12288 : Shape := ⟨2, ![16, 12288]⟩
abbrev S1x2048x1024 : Shape := ⟨3, ![1, 2048, 1024]⟩
abbrev S1x1024 : Shape := ⟨2, ![1, 1024]⟩
abbrev S16x1024 : Shape := ⟨2, ![16, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S1x2048x12288, .f32⟩
  | .hbm, ⟨2, _⟩ => ⟨S1x12288, .f32⟩
  | .hbm, ⟨3, _⟩ => ⟨S16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S16x2048 : Shape := ⟨2, ![16, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S16x12288 : Shape := ⟨2, ![16, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048x12288, .f32⟩
  | .hbm, ⟨2, _⟩ => ⟨S1x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S2048x12288, .f32⟩
  | .hbm, ⟨13, _⟩ => ⟨S16x12288, .f32⟩
  | .hbm, ⟨14, _⟩ => ⟨S12288, .f32⟩
  | .hbm, ⟨15, _⟩ => ⟨S1x12288, .f32⟩
  | .hbm, ⟨16, _⟩ => ⟨S16x12288, .f32⟩
  | .hbm, ⟨17, _⟩ => ⟨S16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Mix.lean ====
abbrev S16x2048x1024 : Shape := ⟨3, ![16, 2048, 1024]⟩
abbrev S16x2048x2048 : Shape := ⟨3, ![16, 2048, 2048]⟩
abbrev S16x12288 : Shape := ⟨2, ![16, 12288]⟩
abbrev S1x1024 : Shape := ⟨2, ![1, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S16x6x2048 : Shape := ⟨3, ![16, 6, 2048]⟩
abbrev S1x2x8x64 : Shape := ⟨4, ![1, 2, 8, 64]⟩
abbrev S1x8x2x64 : Shape := ⟨4, ![1, 8, 2, 64]⟩
abbrev S2048x2048 : Shape := ⟨2, ![2048, 2048]⟩
abbrev S1024x2048 : Shape := ⟨2, ![1024, 2048]⟩
abbrev S2x8x64x2048 : Shape := ⟨4, ![2, 8, 64, 2048]⟩
abbrev S8x2x64x2048 : Shape := ⟨4, ![8, 2, 64, 2048]⟩
abbrev S2048x4 : Shape := ⟨2, ![2048, 4]⟩
abbrev S2048x32 : Shape := ⟨2, ![2048, 32]⟩
abbrev S2048x36 : Shape := ⟨2, ![2048, 36]⟩
abbrev S_ : Shape := ⟨0, ![]⟩
abbrev S2048x128 : Shape := ⟨2, ![2048, 128]⟩
abbrev S4 : Shape := ⟨1, ![4]⟩
abbrev S32 : Shape := ⟨1, ![32]⟩
abbrev S36 : Shape := ⟨1, ![36]⟩
abbrev S128 : Shape := ⟨1, ![128]⟩
abbrev S1x128 : Shape := ⟨2, ![1, 128]⟩
abbrev S2048x256 : Shape := ⟨2, ![2048, 256]⟩
abbrev S16x16384x128 : Shape := ⟨3, ![16, 16384, 128]⟩
abbrev S16x2048x128 : Shape := ⟨3, ![16, 2048, 128]⟩
abbrev S1x512x1024 : Shape := ⟨3, ![1, 512, 1024]⟩
abbrev S1x512x2048 : Shape := ⟨3, ![1, 512, 2048]⟩
abbrev S1x6x2048 : Shape := ⟨3, ![1, 6, 2048]⟩
abbrev S1x4096x128 : Shape := ⟨3, ![1, 4096, 128]⟩
abbrev S1x512x128 : Shape := ⟨3, ![1, 512, 128]⟩
abbrev S1x1x2048 : Shape := ⟨3, ![1, 1, 2048]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1x256x2048 : Shape := ⟨3, ![1, 256, 2048]⟩
abbrev S256x128 : Shape := ⟨2, ![256, 128]⟩
abbrev S1x2048x128 : Shape := ⟨3, ![1, 2048, 128]⟩
abbrev S256x256 : Shape := ⟨2, ![256, 256]⟩
abbrev S1x256x128 : Shape := ⟨3, ![1, 256, 128]⟩

abbrev nBuf : Space → Nat
  | .hbm => 47
  | .vmem => 21
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x2048, .f32⟩
  | .hbm, ⟨3, _⟩ => ⟨S16x12288, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S1x2048x4, .f32⟩
  | .hbm, ⟨10, _⟩ => ⟨S1x4, .f32⟩
  | .hbm, ⟨11, _⟩ => ⟨S1x2048x32, .f32⟩
  | .hbm, ⟨12, _⟩ => ⟨S1x32, .f32⟩
  | .hbm, ⟨13, _⟩ => ⟨S16x6x2048, .f32⟩
  | .hbm, ⟨14, _⟩ => ⟨S1x2x8x64, .f32⟩
  | .hbm, ⟨15, _⟩ => ⟨S1x8x2x64, .f32⟩
  | .hbm, ⟨16, _⟩ => ⟨S1x1024, .f32⟩
  | .hbm, ⟨17, _⟩ => ⟨S2048x2048, .f32⟩
  | .hbm, ⟨18, _⟩ => ⟨S1024x2048, .f32⟩
  | .hbm, ⟨19, _⟩ => ⟨S2x8x64x2048, .f32⟩
  | .hbm, ⟨20, _⟩ => ⟨S8x2x64x2048, .f32⟩
  | .hbm, ⟨21, _⟩ => ⟨S1024x2048, .f32⟩
  | .hbm, ⟨22, _⟩ => ⟨S2048x2048, .f32⟩
  | .hbm, ⟨23, _⟩ => ⟨S1024x2048, .f32⟩
  | .hbm, ⟨24, _⟩ => ⟨S2048x2048, .f32⟩
  | .hbm, ⟨25, _⟩ => ⟨S2048x2048, .bf16⟩
  | .hbm, ⟨26, _⟩ => ⟨S2048x4, .f32⟩
  | .hbm, ⟨27, _⟩ => ⟨S2048x32, .f32⟩
  | .hbm, ⟨28, _⟩ => ⟨S2048x36, .f32⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S4, .f32⟩
  | .hbm, ⟨33, _⟩ => ⟨S32, .f32⟩
  | .hbm, ⟨34, _⟩ => ⟨S36, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S2048x128, .bf16⟩
  | .hbm, ⟨40, _⟩ => ⟨S2048x128, .f32⟩
  | .hbm, ⟨41, _⟩ => ⟨S2048x128, .f32⟩
  | .hbm, ⟨42, _⟩ => ⟨S2048x128, .bf16⟩
  | .hbm, ⟨43, _⟩ => ⟨S2048x256, .bf16⟩
  | .hbm, ⟨44, _⟩ => ⟨S16x2048x2048, .f32⟩
  | .hbm, ⟨45, _⟩ => ⟨S16x16384x128, .i32⟩
  | .hbm, ⟨46, _⟩ => ⟨S16x2048x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x1024, .f32⟩
  | .local _ .vmem, ⟨9, _⟩ => ⟨S1x1024, .f32⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S2048x256, .bf16⟩
  | .local _ .vmem, ⟨14, _⟩ => ⟨S1x128, .f32⟩
  | .local _ .vmem, ⟨15, _⟩ => ⟨S1x512x2048, .f32⟩
  | .local _ .vmem, ⟨16, _⟩ => ⟨S1x512x2048, .f32⟩
  | .local _ .vmem, ⟨17, _⟩ => ⟨S1x4096x128, .i32⟩
  | .local _ .vmem, ⟨18, _⟩ => ⟨S1x4096x128, .i32⟩
  | .local _ .vmem, ⟨19, _⟩ => ⟨S1x512x128, .f32⟩
  | .local _ .vmem, ⟨20, _⟩ => ⟨S1x512x128, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_0 : Ref sig .tc := ⟨.hbm, 35, rfl⟩
abbrev main_call1_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [BitOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4096x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixIdeal.lean ====
abbrev S16x2048x1024 : Shape := ⟨3, ![16, 2048, 1024]⟩
abbrev S16x2048x2048 : Shape := ⟨3, ![16, 2048, 2048]⟩
abbrev S16x12288 : Shape := ⟨2, ![16, 12288]⟩
abbrev S1x1024 : Shape := ⟨2, ![1, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S16x6x2048 : Shape := ⟨3, ![16, 6, 2048]⟩
abbrev S1x2x8x64 : Shape := ⟨4, ![1, 2, 8, 64]⟩
abbrev S1x8x2x64 : Shape := ⟨4, ![1, 8, 2, 64]⟩
abbrev S2048x2048 : Shape := ⟨2, ![2048, 2048]⟩
abbrev S1024x2048 : Shape := ⟨2, ![1024, 2048]⟩
abbrev S2x8x64x2048 : Shape := ⟨4, ![2, 8, 64, 2048]⟩
abbrev S8x2x64x2048 : Shape := ⟨4, ![8, 2, 64, 2048]⟩
abbrev S2048x4 : Shape := ⟨2, ![2048, 4]⟩
abbrev S2048x32 : Shape := ⟨2, ![2048, 32]⟩
abbrev S2048x36 : Shape := ⟨2, ![2048, 36]⟩
abbrev S_ : Shape := ⟨0, ![]⟩
abbrev S2048x128 : Shape := ⟨2, ![2048, 128]⟩
abbrev S4 : Shape := ⟨1, ![4]⟩
abbrev S32 : Shape := ⟨1, ![32]⟩
abbrev S36 : Shape := ⟨1, ![36]⟩
abbrev S128 : Shape := ⟨1, ![128]⟩
abbrev S1x128 : Shape := ⟨2, ![1, 128]⟩
abbrev S2048x256 : Shape := ⟨2, ![2048, 256]⟩
abbrev S16x16384x2x128 : Shape := ⟨4, ![16, 16384, 2, 128]⟩
abbrev S16x2048x128 : Shape := ⟨3, ![16, 2048, 128]⟩
abbrev S16x16384x1x128 : Shape := ⟨4, ![16, 16384, 1, 128]⟩
abbrev S16x16384x128 : Shape := ⟨3, ![16, 16384, 128]⟩
abbrev S1x512x1024 : Shape := ⟨3, ![1, 512, 1024]⟩
abbrev S1x512x2048 : Shape := ⟨3, ![1, 512, 2048]⟩
abbrev S1x6x2048 : Shape := ⟨3, ![1, 6, 2048]⟩
abbrev S1x4096x128 : Shape := ⟨3, ![1, 4096, 128]⟩
abbrev S1x4096x2x128 : Shape := ⟨4, ![1, 4096, 2, 128]⟩
abbrev S1x4096x1x128 : Shape := ⟨4, ![1, 4096, 1, 128]⟩
abbrev S1x512x128 : Shape := ⟨3, ![1, 512, 128]⟩
abbrev S1x1x2048 : Shape := ⟨3, ![1, 1, 2048]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1x256x2048 : Shape := ⟨3, ![1, 256, 2048]⟩
abbrev S256x128 : Shape := ⟨2, ![256, 128]⟩
abbrev S1x2048x2x128 : Shape := ⟨4, ![1, 2048, 2, 128]⟩
abbrev S2048x2x128 : Shape := ⟨3, ![2048, 2, 128]⟩
abbrev S256x2x128 : Shape := ⟨3, ![256, 2, 128]⟩
abbrev S256x1x128 : Shape := ⟨3, ![256, 1, 128]⟩
abbrev S256x256 : Shape := ⟨2, ![256, 256]⟩
abbrev S1x256x128 : Shape := ⟨3, ![1, 256, 128]⟩

abbrev nBuf : Space → Nat
  | .hbm => 47
  | .vmem => 21
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x2048, .f32⟩
  | .hbm, ⟨3, _⟩ => ⟨S16x12288, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S1x2048x4, .f32⟩
  | .hbm, ⟨10, _⟩ => ⟨S1x4, .f32⟩
  | .hbm, ⟨11, _⟩ => ⟨S1x2048x32, .f32⟩
  | .hbm, ⟨12, _⟩ => ⟨S1x32, .f32⟩
  | .hbm, ⟨13, _⟩ => ⟨S16x6x2048, .f32⟩
  | .hbm, ⟨14, _⟩ => ⟨S1x2x8x64, .f32⟩
  | .hbm, ⟨15, _⟩ => ⟨S1x8x2x64, .f32⟩
  | .hbm, ⟨16, _⟩ => ⟨S1x1024, .f32⟩
  | .hbm, ⟨17, _⟩ => ⟨S2048x2048, .f32⟩
  | .hbm, ⟨18, _⟩ => ⟨S1024x2048, .f32⟩
  | .hbm, ⟨19, _⟩ => ⟨S2x8x64x2048, .f32⟩
  | .hbm, ⟨20, _⟩ => ⟨S8x2x64x2048, .f32⟩
  | .hbm, ⟨21, _⟩ => ⟨S1024x2048, .f32⟩
  | .hbm, ⟨22, _⟩ => ⟨S2048x2048, .f32⟩
  | .hbm, ⟨23, _⟩ => ⟨S1024x2048, .f32⟩
  | .hbm, ⟨24, _⟩ => ⟨S2048x2048, .f32⟩
  | .hbm, ⟨25, _⟩ => ⟨S2048x2048, .bf16⟩
  | .hbm, ⟨26, _⟩ => ⟨S2048x4, .f32⟩
  | .hbm, ⟨27, _⟩ => ⟨S2048x32, .f32⟩
  | .hbm, ⟨28, _⟩ => ⟨S2048x36, .f32⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S4, .f32⟩
  | .hbm, ⟨33, _⟩ => ⟨S32, .f32⟩
  | .hbm, ⟨34, _⟩ => ⟨S36, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S2048x128, .bf16⟩
  | .hbm, ⟨40, _⟩ => ⟨S2048x128, .f32⟩
  | .hbm, ⟨41, _⟩ => ⟨S2048x128, .f32⟩
  | .hbm, ⟨42, _⟩ => ⟨S2048x128, .bf16⟩
  | .hbm, ⟨43, _⟩ => ⟨S2048x256, .bf16⟩
  | .hbm, ⟨44, _⟩ => ⟨S16x2048x2048, .f32⟩
  | .hbm, ⟨45, _⟩ => ⟨S16x16384x2x128, .bf16⟩
  | .hbm, ⟨46, _⟩ => ⟨S16x2048x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .f32⟩
  | .local _ .vmem, ⟨5, _⟩ => ⟨S1x512x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x1024, .f32⟩
  | .local _ .vmem, ⟨9, _⟩ => ⟨S1x1024, .f32⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S2048x256, .bf16⟩
  | .local _ .vmem, ⟨14, _⟩ => ⟨S1x128, .f32⟩
  | .local _ .vmem, ⟨15, _⟩ => ⟨S1x512x2048, .f32⟩
  | .local _ .vmem, ⟨16, _⟩ => ⟨S1x512x2048, .f32⟩
  | .local _ .vmem, ⟨17, _⟩ => ⟨S1x4096x2x128, .bf16⟩
  | .local _ .vmem, ⟨18, _⟩ => ⟨S1x4096x2x128, .bf16⟩
  | .local _ .vmem, ⟨19, _⟩ => ⟨S1x512x128, .f32⟩
  | .local _ .vmem, ⟨20, _⟩ => ⟨S1x512x128, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_0 : Ref sig .tc := ⟨.hbm, 35, rfl⟩
abbrev main_call1_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, 0, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4096x2x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixRefIdeal.lean ====
abbrev S16x2048x1024 : Shape := ⟨3, ![16, 2048, 1024]⟩
abbrev S16x2048x2048 : Shape := ⟨3, ![16, 2048, 2048]⟩
abbrev S16x12288 : Shape := ⟨2, ![16, 12288]⟩
abbrev S1x1024 : Shape := ⟨2, ![1, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S16x2048x8x2x64 : Shape := ⟨5, ![16, 2048, 8, 2, 64]⟩
abbrev S16x2048x2x8x64 : Shape := ⟨5, ![16, 2048, 2, 8, 64]⟩
abbrev S16x2048 : Shape := ⟨2, ![16, 2048]⟩
abbrev S16x1x2048 : Shape := ⟨3, ![16, 1, 2048]⟩
abbrev S1024 : Shape := ⟨1, ![1024]⟩
abbrev S_ : Shape := ⟨0, ![]⟩
abbrev S16x2048x1 : Shape := ⟨3, ![16, 2048, 1]⟩
abbrev S1x1x1024 : Shape := ⟨3, ![1, 1, 1024]⟩
abbrev S2048x2048 : Shape := ⟨2, ![2048, 2048]⟩
abbrev S2048 : Shape := ⟨1, ![2048]⟩
abbrev S1x1x2048 : Shape := ⟨3, ![1, 1, 2048]⟩

abbrev nBuf : Space → Nat
  | .hbm => 102
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x2048, .f32⟩
  | .hbm, ⟨3, _⟩ => ⟨S16x12288, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S1x2048x4, .f32⟩
  | .hbm, ⟨10, _⟩ => ⟨S1x4, .f32⟩
  | .hbm, ⟨11, _⟩ => ⟨S1x2048x32, .f32⟩
  | .hbm, ⟨12, _⟩ => ⟨S1x32, .f32⟩
  | .hbm, ⟨13, _⟩ => ⟨S16x2048x8x2x64, .bf16⟩
  | .hbm, ⟨14, _⟩ => ⟨S16x2048x2x8x64, .bf16⟩
  | .hbm, ⟨15, _⟩ => ⟨S16x2048x1024, .bf16⟩
  | .hbm, ⟨16, _⟩ => ⟨S16x2048, .f32⟩
  | .hbm, ⟨17, _⟩ => ⟨S16x2048, .f32⟩
  | .hbm, ⟨18, _⟩ => ⟨S16x2048, .f32⟩
  | .hbm, ⟨19, _⟩ => ⟨S16x2048, .f32⟩
  | .hbm, ⟨20, _⟩ => ⟨S16x2048, .f32⟩
  | .hbm, ⟨21, _⟩ => ⟨S16x2048, .f32⟩
  | .hbm, ⟨22, _⟩ => ⟨S16x1x2048, .f32⟩
  | .hbm, ⟨23, _⟩ => ⟨S16x2048x1024, .f32⟩
  | .hbm, ⟨24, _⟩ => ⟨S1024, .f32⟩
  | .hbm, ⟨25, _⟩ => ⟨S16x2048x1024, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1, .f32⟩
  | .hbm, ⟨36, _⟩ => ⟨S16x2048x1024, .f32⟩
  | .hbm, ⟨37, _⟩ => ⟨S16x2048x1024, .f32⟩
  | .hbm, ⟨38, _⟩ => ⟨S1x1x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S1024, .f32⟩
  | .hbm, ⟨43, _⟩ => ⟨S16x2048x1024, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S16x2048x1, .f32⟩
  | .hbm, ⟨54, _⟩ => ⟨S16x2048x1024, .f32⟩
  | .hbm, ⟨55, _⟩ => ⟨S16x2048x1024, .f32⟩
  | .hbm, ⟨56, _⟩ => ⟨S1x1x1024, .f32⟩
  | .hbm, ⟨57, _⟩ => ⟨S16x2048x1024, .f32⟩
  | .hbm, ⟨58, _⟩ => ⟨S16x2048x1024, .f32⟩
  | .hbm, ⟨59, _⟩ => ⟨S16x2048x2048, .f32⟩
  | .hbm, ⟨60, _⟩ => ⟨S2048x2048, .f32⟩
  | .hbm, ⟨61, _⟩ => ⟨S16x2048x2048, .f32⟩
  | .hbm, ⟨62, _⟩ => ⟨S_, .f32⟩
  | .hbm, ⟨63, _⟩ => ⟨S16x2048x2048, .f32⟩
  | .hbm, ⟨64, _⟩ => ⟨S16x2048x2048, .f32⟩
  | .hbm, ⟨65, _⟩ => ⟨S_, .f32⟩
  | .hbm, ⟨66, _⟩ => ⟨S16x1x2048, .f32⟩
  | .hbm, ⟨67, _⟩ => ⟨S16x1x2048, .f32⟩
  | .hbm, ⟨68, _⟩ => ⟨S16x2048x2048, .f32⟩
  | .hbm, ⟨69, _⟩ => ⟨S16x2048x2048, .f32⟩
  | .hbm, ⟨70, _⟩ => ⟨S16x2048x2048, .f32⟩
  | .hbm, ⟨71, _⟩ => ⟨S2048, .f32⟩
  | .hbm, ⟨72, _⟩ => ⟨S2048, .f32⟩
  | .hbm, ⟨73, _⟩ => ⟨S_, .f32⟩
  | .hbm, ⟨74, _⟩ => ⟨S16x2048, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S16x2048x2048, .f32⟩
  | .hbm, ⟨80, _⟩ => ⟨S16x2048x2048, .f32⟩
  | .hbm, ⟨81, _⟩ => ⟨S16x2048x2048, .f32⟩
  | .hbm, ⟨82, _⟩ => ⟨S_, .f32⟩
  | .hbm, ⟨83, _⟩ => ⟨S16x2048, .f32⟩
  | .hbm, ⟨84, _⟩ => ⟨S16x2048x1, .f32⟩
  | .hbm, ⟨85, _⟩ => ⟨S_, .f32⟩
  | .hbm, ⟨86, _⟩ => ⟨S16x2048x1, .f32⟩
  | .hbm, ⟨87, _⟩ => ⟨S16x2048x1, .f32⟩
  | .hbm, ⟨88, _⟩ => ⟨S16x2048x2048, .f32⟩
  | .hbm, ⟨89, _⟩ => ⟨S16x2048x2048, .f32⟩
  | .hbm, ⟨90, _⟩ => ⟨S_, .f32⟩
  | .hbm, ⟨91, _⟩ => ⟨S16x2048x1, .f32⟩
  | .hbm, ⟨92, _⟩ => ⟨S16x2048x1, .f32⟩
  | .hbm, ⟨93, _⟩ => ⟨S16x2048x1, .f32⟩
  | .hbm, ⟨94, _⟩ => ⟨S16x2048x2048, .f32⟩
  | .hbm, ⟨95, _⟩ => ⟨S16x2048x2048, .f32⟩
  | .hbm, ⟨96, _⟩ => ⟨S1x1x2048, .f32⟩
  | .hbm, ⟨97, _⟩ => ⟨S16x2048x2048, .f32⟩
  | .hbm, ⟨98, _⟩ => ⟨S16x2048x2048, .f32⟩
  | .hbm, ⟨99, _⟩ => ⟨S1x1x2048, .f32⟩
  | .hbm, ⟨100, _⟩ => ⟨S16x2048x2048, .f32⟩
  | .hbm, ⟨101, _⟩ => ⟨S16x2048x2048, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== Bias.lean ====
abbrev S32x16 : Shape := ⟨2, ![32, 16]⟩
abbrev S128x256 : Shape := ⟨2, ![128, 256]⟩
abbrev S2x16x128x256 : Shape := ⟨4, ![2, 16, 128, 256]⟩
abbrev S1x16x128x256 : Shape := ⟨4, ![1, 16, 128, 256]⟩
abbrev S1x1 : Shape := ⟨2, ![1, 1]⟩
abbrev S1x1x128x256 : Shape := ⟨4, ![1, 1, 128, 256]⟩

abbrev nBuf : Space → Nat
  | .hbm => 3
  | .vmem => 3
  | .smem => 1
  | _ => 0

abbrev bufTy : (tb : Table) → Fin (tcTables nBuf tb) → BufTy
  | .hbm, ⟨0, _⟩ => ⟨S32x16, .f32⟩
  | .hbm, ⟨1, _⟩ => ⟨S128x256, .i32⟩
  | .hbm, ⟨2, _⟩ => ⟨S2x16x128x256, .f32⟩
  | .local _ .vmem, ⟨0, _⟩ => ⟨S128x256, .i32⟩
  | .local _ .vmem, ⟨1, _⟩ => ⟨S1x16x128x256, .f32⟩
  | .local _ .vmem, ⟨2, _⟩ => ⟨S1x16x128x256, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BiasIdeal.lean ====
variable {F : FTy → Type} [FloatOps F] [Named F]
def κ : String → Option EReal := fun
  | "mask" => some ⊥
  | _ => none
-- ==== BiasRefIdeal.lean ====
abbrev S32x16 : Shape := ⟨2, ![32, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S2x128x256 : Shape := ⟨3, ![2, 128, 256]⟩
abbrev S128x256x1 : Shape := ⟨3, ![128, 256, 1]⟩
abbrev S128x256x16 : Shape := ⟨3, ![128, 256, 16]⟩
abbrev S16x128x256 : Shape := ⟨3, ![16, 128, 256]⟩
abbrev S2x1x128x256 : Shape := ⟨4, ![2, 1, 128, 256]⟩
abbrev S1x16x128x256 : Shape := ⟨4, ![1, 16, 128, 256]⟩
abbrev S2x16x128x256 : Shape := ⟨4, ![2, 16, 128, 256]⟩

abbrev nBuf : Space → Nat
  | .hbm => 75
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i1⟩
  | .hbm, ⟨14, _⟩ => ⟨S_, .i32⟩
  | .hbm, ⟨15, _⟩ => ⟨S128x256, .i32⟩
  | .hbm, ⟨16, _⟩ => ⟨S128x256, .i1⟩
  | .hbm, ⟨17, _⟩ => ⟨S128x256, .i1⟩
  | .hbm, ⟨18, _⟩ => ⟨S_, .i32⟩
  | .hbm, ⟨19, _⟩ => ⟨S1x256, .i32⟩
  | .hbm, ⟨20, _⟩ => ⟨S1x256, .i1⟩
  | .hbm, ⟨21, _⟩ => ⟨S128x256, .i1⟩
  | .hbm, ⟨22, _⟩ => ⟨S128x256, .i1⟩
  | .hbm, ⟨23, _⟩ => ⟨S1x128x256, .i1⟩
  | .hbm, ⟨24, _⟩ => ⟨S1x128x256, .i1⟩
  | .hbm, ⟨25, _⟩ => ⟨S2x128x256, .i1⟩
  | .hbm, ⟨26, _⟩ => ⟨S_, .i32⟩
  | .hbm, ⟨27, _⟩ => ⟨S128x256, .i32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | .hbm, ⟨40, _⟩ => ⟨S_, .f32⟩
  | .hbm, ⟨41, _⟩ => ⟨S128x256, .f32⟩
  | .hbm, ⟨42, _⟩ => ⟨S128x256, .f32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S128x256, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i32⟩
  | .hbm, ⟨60, _⟩ => ⟨S128x256, .i32⟩
  | .hbm, ⟨61, _⟩ => ⟨S128x256x1, .i32⟩
  | .hbm, ⟨62, _⟩ => ⟨S128x256x16, .f32⟩
  | .hbm, ⟨63, _⟩ => ⟨S_, .f32⟩
  | .hbm, ⟨64, _⟩ => ⟨S128x256x16, .f32⟩
  | .hbm, ⟨65, _⟩ => ⟨S128x256x16, .f32⟩
  | .hbm, ⟨66, _⟩ => ⟨S16x128x256, .f32⟩
  | .hbm, ⟨67, _⟩ => ⟨S2x1x128x256, .i1⟩
  | .hbm, ⟨68, _⟩ => ⟨S1x16x128x256, .f32⟩
  | .hbm, ⟨69, _⟩ => ⟨S_, .f32⟩
  | .hbm, ⟨70, _⟩ => ⟨S_, .f32⟩
  | .hbm, ⟨71, _⟩ => ⟨S2x16x128x256, .i1⟩
  | .hbm, ⟨72, _⟩ => ⟨S2x16x128x256, .f32⟩
  | .hbm, ⟨73, _⟩ => ⟨S2x16x128x256, .f32⟩
  | .hbm, ⟨74, _⟩ => ⟨S2x16x128x256, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_3 : Ref sig .tc := ⟨.hbm, 26, rfl⟩
abbrev main_v21 : Ref sig .tc := ⟨.hbm, 27, rfl⟩
abbrev main_v22 : Ref sig .tc := ⟨.hbm, 28, rfl⟩
abbrev main_c_4 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_7 : Ref sig .tc := ⟨.hbm, 44, rfl⟩
abbrev main_v34 : Ref sig .tc := ⟨.hbm, 45, rfl⟩
abbrev main_v35 : Ref sig .tc := ⟨.hbm, 46, rfl⟩
abbrev main_c_8 : Ref sig .tc := ⟨.hbm, 47, rfl⟩
abbrev main_v36 : Ref sig .tc := ⟨.hbm, 48, rfl⟩
abbrev main_v37 : Ref sig .tc := ⟨.hbm, 49, rfl⟩
abbrev main_c_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_10 : Ref sig .tc := ⟨.hbm, 54, rfl⟩
abbrev main_v41 : Ref sig .tc := ⟨.hbm, 55, rfl⟩
abbrev main_v42 : Ref sig .tc := ⟨.hbm, 56, rfl⟩
abbrev main_c_11 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_12 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Swa.lean ====
abbrev S16x2048x4352 : Shape := ⟨3, ![16, 2048, 4352]⟩
abbrev S16 : Shape := ⟨1, ![16]⟩
abbrev S2x16x128x256 : Shape := ⟨4, ![2, 16, 128, 256]⟩
abbrev S16x2048x1024 : Shape := ⟨3, ![16, 2048, 1024]⟩
abbrev S1x128x1024 : Shape := ⟨3, ![1, 128, 1024]⟩
abbrev S1x128x256 : Shape := ⟨3, ![1, 128, 256]⟩
abbrev S1x16x128x256 : Shape := ⟨4, ![1, 16, 128, 256]⟩
abbrev S128x256 : Shape := ⟨2, ![128, 256]⟩
abbrev S256x256 : Shape := ⟨2, ![256, 256]⟩
abbrev S256x128 : Shape := ⟨2, ![256, 128]⟩
abbrev S1x128x128 : Shape := ⟨3, ![1, 128, 128]⟩
abbrev S128x128 : Shape := ⟨2, ![128, 128]⟩
abbrev S1x1x128x256 : Shape := ⟨4, ![1, 1, 128, 256]⟩
abbrev S1 : Shape := ⟨1, ![1]⟩
abbrev S128 : Shape := ⟨1, ![128]⟩
abbrev S128x1 : Shape := ⟨2, ![128, 1]⟩

abbrev nBuf : Space → Nat
  | .hbm => 4
  | .vmem => 10
  | .smem => 1
  | _ => 0

abbrev bufTy : (tb : Table) → Fin (tcTables nBuf tb) → BufTy
  | .hbm, ⟨0, _⟩ => ⟨S16x2048x4352, .bf16⟩
  | .hbm, ⟨1, _⟩ => ⟨S16, .f32⟩
  | .hbm, ⟨2, _⟩ => ⟨S2x16x128x256, .f32⟩
  | .hbm, ⟨3, _⟩ => ⟨S16x2048x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x16x128x256, .f32⟩
  | .local _ .vmem, ⟨7, _⟩ => ⟨S1x16x128x256, .f32⟩
  | .local _ .vmem, ⟨8, _⟩ => ⟨S1x128x1024, .bf16⟩
  | .local _ .vmem, ⟨9, _⟩ => ⟨S1x128x1024, .bf16⟩
  | .local _ .smem, ⟨0, _⟩ => ⟨S16, .f32⟩
  | _, _ => ⟨S16x2048x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let c0_i32_0 : BitVec 32 := 0#32
  ![arg0.toNat, v1.toNat, c16_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwaRefIdeal.lean ====
abbrev S16x2048x4352 : Shape := ⟨3, ![16, 2048, 4352]⟩
abbrev S16 : Shape := ⟨1, ![16]⟩
abbrev S2x16x128x256 : Shape := ⟨4, ![2, 16, 128, 256]⟩
abbrev S_ : Shape := ⟨0, ![]⟩
abbrev S16x2048x1024 : Shape := ⟨3, ![16, 2048, 1024]⟩
abbrev S16x16x128x8x2x64 : Shape := ⟨6, ![16, 16, 128, 8, 2, 64]⟩
abbrev S16x2048x128 : Shape := ⟨3, ![16, 2048, 128]⟩
abbrev S16x16x128x2x64 : Shape := ⟨5, ![16, 16, 128, 2, 64]⟩
abbrev S16x17x128x2x64 : Shape := ⟨5, ![16, 17, 128, 2, 64]⟩
abbrev S16x16x256x2x64 : Shape := ⟨5, ![16, 16, 256, 2, 64]⟩
abbrev S16x16x2x256x128x8 : Shape := ⟨6, ![16, 16, 2, 256, 128, 8]⟩
abbrev S16x16x2x8x128x256 : Shape := ⟨6, ![16, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x1 : Shape := ⟨4, ![16, 1, 1, 1]⟩
abbrev S1x16x128x256 : Shape := ⟨4, ![1, 16, 128, 256]⟩
abbrev S16x16x128x256 : Shape := ⟨4, ![16, 16, 128, 256]⟩
abbrev S16x2x8x128x256 : Shape := ⟨5, ![16, 2, 8, 128, 256]⟩
abbrev S1x16x1x1x128x256 : Shape := ⟨6, ![1, 16, 1, 1, 128, 256]⟩
abbrev S1x16x2x8x128x256 : Shape := ⟨6, ![1, 16, 2, 8, 128, 256]⟩
abbrev S2x8 : Shape := ⟨2, ![2, 8]⟩
abbrev S2x8x1x1 : Shape := ⟨4, ![2, 8, 1, 1]⟩
abbrev S16x16x2x8x128 : Shape := ⟨5, ![16, 16, 2, 8, 128]⟩
abbrev S16x16x2x8x128x1 : Shape := ⟨6, ![16, 16, 2, 8, 128, 1]⟩
abbrev S1x1x2x8x1x1 : Shape := ⟨6, ![1, 1, 2, 8, 1, 1]⟩
abbrev S16x16x2x64x8x128 : Shape := ⟨6, ![16, 16, 2, 64, 8, 128]⟩

abbrev nBuf : Space → Nat
  | .hbm => 114
  | .vmem => 0
  | .smem => 0
  | _ => 0

abbrev bufTy : (tb : Table) → Fin (tcTables nBuf tb) → BufTy
  | .hbm, ⟨0, _⟩ => ⟨S16x2048x4352, .bf16⟩
  | .hbm, ⟨1, _⟩ => ⟨S16, .f32⟩
  | .hbm, ⟨2, _⟩ => ⟨S2x16x128x256, .f32⟩
  | .hbm, ⟨3, _⟩ => ⟨S_, .f32⟩
  | .hbm, ⟨4, _⟩ => ⟨S_, .f32⟩
  | .hbm, ⟨5, _⟩ => ⟨S16x2048x4352, .f32⟩
  | .hbm, ⟨6, _⟩ => ⟨S16x2048x1024, .f32⟩
  | .hbm, ⟨7, _⟩ => ⟨S16x16x128x8x2x64, .f32⟩
  | .hbm, ⟨8, _⟩ => ⟨S16x2048x128, .f32⟩
  | .hbm, ⟨9, _⟩ => ⟨S16x16x128x2x64, .f32⟩
  | .hbm, ⟨10, _⟩ => ⟨S16x2048x128, .f32⟩
  | .hbm, ⟨11, _⟩ => ⟨S16x16x128x2x64, .f32⟩
  | .hbm, ⟨12, _⟩ => ⟨S_, .i32⟩
  | .hbm, ⟨13, _⟩ => ⟨S_, .f32⟩
  | .hbm, ⟨14, _⟩ => ⟨S16x17x128x2x64, .f32⟩
  | .hbm, ⟨15, _⟩ => ⟨S16x16x128x2x64, .f32⟩
  | .hbm, ⟨16, _⟩ => ⟨S16x16x256x2x64, .f32⟩
  | .hbm, ⟨17, _⟩ => ⟨S_, .i32⟩
  | .hbm, ⟨18, _⟩ => ⟨S_, .f32⟩
  | .hbm, ⟨19, _⟩ => ⟨S16x17x128x2x64, .f32⟩
  | .hbm, ⟨20, _⟩ => ⟨S16x16x128x2x64, .f32⟩
  | .hbm, ⟨21, _⟩ => ⟨S16x16x256x2x64, .f32⟩
  | .hbm, ⟨22, _⟩ => ⟨S16x16x2x256x128x8, .f32⟩
  | .hbm, ⟨23, _⟩ => ⟨S16x16x2x8x128x256, .f32⟩
  | .hbm, ⟨24, _⟩ => ⟨S_, .f32⟩
  | .hbm, ⟨25, _⟩ => ⟨S16x16x2x8x128x256, .f32⟩
  | .hbm, ⟨26, _⟩ => ⟨S16x16x2x8x128x256, .f32⟩
  | .hbm, ⟨27, _⟩ => ⟨S128, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S16, .i32⟩
  | .hbm, ⟨45, _⟩ => ⟨S16x1x1, .i32⟩
  | .hbm, ⟨46, _⟩ => ⟨S_, .i32⟩
  | .hbm, ⟨47, _⟩ => ⟨S16x1x1, .i32⟩
  | .hbm, ⟨48, _⟩ => ⟨S16x1x1, .i1⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S1x1x256, .i1⟩
  | .hbm, ⟨53, _⟩ => ⟨S16x1x256, .i1⟩
  | .hbm, ⟨54, _⟩ => ⟨S16x1x256, .i1⟩
  | .hbm, ⟨55, _⟩ => ⟨S16x1x256, .i1⟩
  | .hbm, ⟨56, _⟩ => ⟨S1x128x256, .i1⟩
  | .hbm, ⟨57, _⟩ => ⟨S16x128x256, .i1⟩
  | .hbm, ⟨58, _⟩ => ⟨S16x128x256, .i1⟩
  | .hbm, ⟨59, _⟩ => ⟨S16x128x256, .i1⟩
  | .hbm, ⟨60, _⟩ => ⟨S16, .i32⟩
  | .hbm, ⟨61, _⟩ => ⟨S_, .i32⟩
  | .hbm, ⟨62, _⟩ => ⟨S16, .i32⟩
  | .hbm, ⟨63, _⟩ => ⟨S16, .i1⟩
  | .hbm, ⟨64, _⟩ => ⟨S16x1x1x1, .i1⟩
  | .hbm, ⟨65, _⟩ => ⟨S1x16x128x256, .f32⟩
  | .hbm, ⟨66, _⟩ => ⟨S16x128x256, .f32⟩
  | .hbm, ⟨67, _⟩ => ⟨S1x16x128x256, .f32⟩
  | .hbm, ⟨68, _⟩ => ⟨S16x128x256, .f32⟩
  | .hbm, ⟨69, _⟩ => ⟨S16x16x128x256, .i1⟩
  | .hbm, ⟨70, _⟩ => ⟨S16x16x128x256, .f32⟩
  | .hbm, ⟨71, _⟩ => ⟨S16x16x128x256, .f32⟩
  | .hbm, ⟨72, _⟩ => ⟨S16x16x128x256, .f32⟩
  | .hbm, ⟨73, _⟩ => ⟨S_, .f32⟩
  | .hbm, ⟨74, _⟩ => ⟨S16x16x128x256, .f32⟩
  | .hbm, ⟨75, _⟩ => ⟨S16x16x128x256, .f32⟩
  | .hbm, ⟨76, _⟩ => ⟨S16x2x8x128x256, .f32⟩
  | .hbm, ⟨77, _⟩ => ⟨S1x16x1x1x128x256, .i1⟩
  | .hbm, ⟨78, _⟩ => ⟨S1x16x2x8x128x256, .f32⟩
  | .hbm, ⟨79, _⟩ => ⟨S16x16x2x8x128x256, .f32⟩
  | .hbm, ⟨80, _⟩ => ⟨S16x16x2x8x128x256, .f32⟩
  | .hbm, ⟨81, _⟩ => ⟨S_, .f32⟩
  | .hbm, ⟨82, _⟩ => ⟨S_, .f32⟩
  | .hbm, ⟨83, _⟩ => ⟨S16x16x2x8x128x256, .i1⟩
  | .hbm, ⟨84, _⟩ => ⟨S16x16x2x8x128x256, .f32⟩
  | .hbm, ⟨85, _⟩ => ⟨S16x16x2x8x128x256, .f32⟩
  | .hbm, ⟨86, _⟩ => ⟨S_, .f32⟩
  | .hbm, ⟨87, _⟩ => ⟨S16, .f32⟩
  | .hbm, ⟨88, _⟩ => ⟨S16, .f32⟩
  | .hbm, ⟨89, _⟩ => ⟨S2x8, .f32⟩
  | .hbm, ⟨90, _⟩ => ⟨S2x8x1x1, .f32⟩
  | .hbm, ⟨91, _⟩ => ⟨S_, .f32⟩
  | .hbm, ⟨92, _⟩ => ⟨S16x16x2x8x128, .f32⟩
  | .hbm, ⟨93, _⟩ => ⟨S16x16x2x8x128x1, .f32⟩
  | .hbm, ⟨94, _⟩ => ⟨S1x1x2x8x1x1, .f32⟩
  | .hbm, ⟨95, _⟩ => ⟨S16x16x2x8x128x1, .f32⟩
  | .hbm, ⟨96, _⟩ => ⟨S16x16x2x8x128x1, .f32⟩
  | .hbm, ⟨97, _⟩ => ⟨S16x16x2x8x128x256, .f32⟩
  | .hbm, ⟨98, _⟩ => ⟨S16x16x2x8x128x256, .f32⟩
  | .hbm, ⟨99, _⟩ => ⟨S16x16x2x8x128x256, .f32⟩
  | .hbm, ⟨100, _⟩ => ⟨S_, .f32⟩
  | .hbm, ⟨101, _⟩ => ⟨S16x16x2x8x128, .f32⟩
  | .hbm, ⟨102, _⟩ => ⟨S16x16x2x8x128x1, .f32⟩
  | .hbm, ⟨103, _⟩ => ⟨S1x1x2x8x1x1, .f32⟩
  | .hbm, ⟨104, _⟩ => ⟨S16x16x2x8x128x1, .f32⟩
  | .hbm, ⟨105, _⟩ => ⟨S16x16x2x8x128x1, .f32⟩
  | .hbm, ⟨106, _⟩ => ⟨S16x16x2x8x128x1, .f32⟩
  | .hbm, ⟨107, _⟩ => ⟨S16x16x2x8x128x1, .f32⟩
  | .hbm, ⟨108, _⟩ => ⟨S16x16x2x8x128x256, .f32⟩
  | .hbm, ⟨109, _⟩ => ⟨S16x16x2x8x128x256, .f32⟩
  | .hbm, ⟨110, _⟩ => ⟨S16x16x2x64x8x128, .f32⟩
  | .hbm, ⟨111, _⟩ => ⟨S16x16x128x8x2x64, .f32⟩
  | .hbm, ⟨112, _⟩ => ⟨S16x2048x1024, .f32⟩
  | .hbm, ⟨113, _⟩ => ⟨S16x2048x1024, .bf16⟩
  | _, _ => ⟨S16x2048x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_8 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_9 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩

abbrev nD : Nat := 1
abbrev τ : Topo := Topo.v7x

variable {F : FTy → Type} [FloatOps F]
-- ==== Proof.Sums.lean ====
/- Sums of extended reals under a finite scale. -/
module

public import Idealize.ShloMosaic.PureOps.Ideal
public import Idealize.ShloMosaic.PureOps.Ideal.Laws
public import Mathlib.Data.EReal.Operations

@[expose] public section

namespace Cert.Proof

/-- A scale that is neither negative nor infinite goes through a sum. -/
theorem sum_mul_scale {ι : Type} (s : Finset ι) (f : ι → EReal) {u : EReal} (h0 : 0 ≤ u) (h1 : u ≠ ⊤) :
    (∑ k ∈ s, f k) * u = ∑ k ∈ s, f k * u := by
  classical
  induction s using Finset.induction_on with
  | empty => simp
  | insert a s ha ih => rw [Finset.sum_insert ha, Finset.sum_insert ha, EReal.right_distrib_of_nonneg_of_ne_top h0 h1, ih]

end Cert.Proof
-- ==== Proof.Qkv.lean ====
/- The projections: the kernel's blocks of the product with reordered, scaled columns are the plain product, split,
   reordered and scaled. -/
module

public import proofs.«01_k».proof.Defs
public import proofs.«01_k».proof.Proof.Sums
public import proofs.«01_k».proof.Proof.Gen.QkvIdeal.Value
public import proofs.«01_k».proof.Proof.Gen.QkvRefIdeal.Run
public import proofs.«01_k».proof.Proof.Gen.QkvRefIdeal.Read
public import Idealize.ShloMosaic.Lib.Pointwise
public import Idealize.ShloMosaic.Lib.Pipeline.ValueKit
public import Idealize.ShloMosaic.Lib.StableHlo.ReadAt

@[expose] public section

noncomputable section

namespace Cert.Proof.Qkv

open Cert.QkvIdeal Cert.QkvIdeal.Gen Cert.QkvIdeal.Value Idealize.ShloMosaic Idealize.ShloMosaic.TcCoe Idealize.SL.Sem

/-- The queries' unit. -/
abbrev unit : EReal := Ideal.ofBits .f32 0x3E38AA3B#32

/-- An element of the modulated input. -/
def hid (x : Vec Ideal S16x2048x2048 .f32) (mod : Vec Ideal S16x12288 .f32) (b : Fin 16) (r k : Fin 2048) : EReal :=
  x (ix3 b r k) * (1 + mod (ix2 b ⟨2048 + k.val, by omega⟩)) + mod (ix2 b ⟨k.val, by omega⟩)

/-- The column of the weight that column `n` of the result is taken from. -/
def col (n : Fin 4352) : Fin 4352 :=
  if h : n.val < 1024 then ⟨1280 + n.val, by omega⟩
  else if h : n.val < 3072 then ⟨n.val + 1280, by omega⟩
  else if h : n.val < 4096 then
    ⟨(n.val - 3072) / 64 % 2 * 512 + (n.val - 3072) / 128 * 64 + (n.val - 3072) % 64, by omega⟩
  else ⟨n.val - 3072, by omega⟩

/-- Whether column `n` of the result is a query's. -/
def isq (n : Fin 4352) : Prop := n.val < 1024 ∨ (3072 ≤ n.val ∧ n.val < 4096)

instance (n : Fin 4352) : Decidable (isq n) := inferInstanceAs (Decidable (_ ∨ _))

theorem col_val (n : Fin 4352) :
    (n.val < 1024 → (col n).val = 1280 + n.val) ∧ (¬ n.val < 1024 → n.val < 3072 → (col n).val = n.val + 1280)
    ∧ (¬ n.val < 3072 → n.val < 4096 →
      (col n).val = (n.val - 3072) / 64 % 2 * 512 + (n.val - 3072) / 128 * 64 + (n.val - 3072) % 64)
    ∧ (¬ n.val < 4096 → (col n).val = n.val - 3072) := by
  refine ⟨fun h => ?_, fun h h' => ?_, fun h h' => ?_, fun h => ?_⟩
  · rw [col, dif_pos h]
  · rw [col, dif_neg h, dif_pos h']
  · rw [col, dif_neg (by omega), dif_neg h, dif_pos h']
  · rw [col, dif_neg (by omega), dif_neg (by omega), dif_neg h]

/-- An element of the kernel's weight: the column reordered, a query's scaled. -/
def wcol (w : Vec Ideal S1x2048x4352 .f32) (k : Fin 2048) (n : Fin 4352) : EReal :=
  w (ix3 0 k (col n)) * (if isq n then unit else 1)

theorem pay_apply (s0 s1 : Vec Ideal S1x1x2048 .f32) (x : Vec Ideal S1x512x2048 .f32) (w : Vec Ideal S2048x2176 .bf16)
    (r : Fin 512) (n : Fin 2176) :
    k0_pay1 (F := Ideal) s0 s1 x w (ix3 0 r n)
      = ∑ k : Fin 2048, (x (ix3 0 r k) * (1 + s1 (ix3 0 0 k)) + s0 (ix3 0 0 k)) * w (ix2 k n) := by
  pointwise [Gen.k0_pay1]

set_option maxRecDepth 16384 in
theorem ref_apply (x : Vec Ideal S16x2048x2048 .f32) (mod : Vec Ideal S16x12288 .f32) (w : Vec Ideal S1x2048x4352 .f32)
    (b : Fin 16) (r : Fin 2048) (n : Fin 4352) :
    Cert.QkvRefIdeal.Read.val_main_v30 (F := Ideal) x mod w (ix3 b r n)
      = (∑ k : Fin 2048, hid x mod b r k * w (ix3 0 k (col n))) * (if isq n then unit else 1) := by
  have hv : ∀ (b : Fin 16) (r : Fin 2048) (n : Fin 4352), Cert.QkvRefIdeal.Read.val_main_v15 (F := Ideal) x mod w (ix3 b r n)
      = ∑ k : Fin 2048, hid x mod b r k * w (ix3 0 k n) := by
    intro b r n
    pointwise [Cert.QkvRefIdeal.Read.val_main_v15, Cert.QkvRefIdeal.Read.val_main_v14, Cert.QkvRefIdeal.Read.val_main_v13,
      Cert.QkvRefIdeal.Read.val_main_v12, Cert.QkvRefIdeal.Read.val_main_v11, Cert.QkvRefIdeal.Read.val_main_v10,
      Cert.QkvRefIdeal.Read.val_main_v9, Cert.QkvRefIdeal.Read.val_main_v8, Cert.QkvRefIdeal.Read.val_main_v7,
      Cert.QkvRefIdeal.Read.val_main_v6, Cert.QkvRefIdeal.Read.val_main_v1, Cert.QkvRefIdeal.Read.val_main_v0,
      Cert.QkvRefIdeal.Read.val_main_cst, hid]
  pointwise [Cert.QkvRefIdeal.Read.val_main_v30, Cert.QkvRefIdeal.Read.val_main_v29, Cert.QkvRefIdeal.Read.val_main_v28,
    Cert.QkvRefIdeal.Read.val_main_v27, Cert.QkvRefIdeal.Read.val_main_v26, Cert.QkvRefIdeal.Read.val_main_v25,
    Cert.QkvRefIdeal.Read.val_main_v24, Cert.QkvRefIdeal.Read.val_main_v23, Cert.QkvRefIdeal.Read.val_main_v22,
    Cert.QkvRefIdeal.Read.val_main_v21, Cert.QkvRefIdeal.Read.val_main_v20, Cert.QkvRefIdeal.Read.val_main_v19,
    Cert.QkvRefIdeal.Read.val_main_v18, Cert.QkvRefIdeal.Read.val_main_v17, Cert.QkvRefIdeal.Read.val_main_v16,
    Cert.QkvRefIdeal.Read.val_main_cst_0, Cert.QkvRefIdeal.Read.val_main_cst_1]
  have key : ∀ p : Fin 4352, p.val = (col n).val → isq n → Cert.QkvRefIdeal.Read.val_main_v15 (F := Ideal) x mod w (ix3 b r p) * unit
      = (∑ k : Fin 2048, hid x mod b r k * w (ix3 0 k (col n))) * (if isq n then unit else 1) := by
    intro p hp hq
    rw [Fin.ext hp, hv, if_pos hq]
  have key' : ∀ p : Fin 4352, p.val = (col n).val → ¬ isq n → Cert.QkvRefIdeal.Read.val_main_v15 (F := Ideal) x mod w (ix3 b r p)
      = (∑ k : Fin 2048, hid x mod b r k * w (ix3 0 k (col n))) * (if isq n then unit else 1) := by
    intro p hp hq
    rw [Fin.ext hp, hv, if_neg hq, mul_one]
  have hn := n.isLt
  split
  · exact key _ (by have := col_val n; dsimp only; omega) (by unfold isq; omega)
  split
  · exact key' _ (by have := col_val n; dsimp only; omega) (by unfold isq; omega)
  split
  · exact key' _ (by have := col_val n; dsimp only; omega) (by unfold isq; omega)
  split
  · exact key _ (by have := col_val n; dsimp only; omega) (by unfold isq; omega)
  split
  · exact key' _ (by have := col_val n; dsimp only; omega) (by unfold isq; omega)
  · exact key' _ (by have := col_val n; dsimp only; omega) (by unfold isq; omega)

variable (m : (ℓ : Loc nD τ sig) → Buf (Elt Ideal) ℓ)

theorem mod_apply (c : Dev nD) (b : Fin 16) (j : Fin 6) (k : Fin 2048) :
    (V m c main_v0 : Vec Ideal S16x6x2048 .f32) (ix3 b j k)
      = (m ((c : Thread nD τ).loc main_arg1) : Vec Ideal S16x12288 .f32) (ix2 b ⟨j.val * 2048 + k.val, by omega⟩) := by
  unfold V
  after_reads_at

theorem w_apply (c : Dev nD) (k : Fin 2048) (n : Fin 4352) :
    (V m c main_v14 : Vec Ideal S2048x4352 .bf16) (ix2 k n) = wcol (m ((c : Thread nD τ).loc main_arg2)) k n := by
  unfold V
  after_reads_at
  let W : Vec Ideal S1x2048x4352 .f32 := m ((c : Thread nD τ).loc main_arg2)
  have hn := n.isLt
  have key : ∀ p : Fin 4352, p.val = (col n).val → isq n →
      W (ix3 0 k p) * unit
        = wcol W k n := by
    intro p hp hq
    rw [Fin.ext hp, wcol, if_pos hq]
  have key' : ∀ p : Fin 4352, p.val = (col n).val → ¬ isq n →
      W (ix3 0 k p)
        = wcol W k n := by
    intro p hp hq
    rw [Fin.ext hp, wcol, if_neg hq, mul_one]
  split
  · after_reads_at
    exact key _ (by have := col_val n; dsimp only; omega) (by unfold isq; omega)
  split
  · after_reads_at
    exact key' _ (by have := col_val n; dsimp only; omega) (by unfold isq; omega)
  split
  · after_reads_at
    exact key _ (by have := col_val n; dsimp only; omega) (by unfold isq; omega)
  · after_reads_at
    exact key' _ (by have := col_val n; dsimp only; omega) (by unfold isq; omega)

/-- The unit is a positive real. -/
theorem unit_nonneg : 0 ≤ unit ∧ unit ≠ ⊤ := by
  have h : unit = (((12102203 : ℝ) * (2 ^ 26)⁻¹ : ℝ) : EReal) := by
    simp [unit, Ideal.ofBits, Ideal.ieee]
  rw [h]
  exact ⟨EReal.coe_nonneg.2 (by positivity), EReal.coe_ne_top _⟩

/-- The result array after the run. -/
theorem final (c : Dev nD) : (dats m 0 c).arrAt 3 cfg0.N
    = Cert.QkvRefIdeal.Read.val_main_v30 (F := Ideal) (m ((c : Thread nD τ).loc main_arg0))
        (m ((c : Thread nD τ).loc main_arg1)) (m ((c : Thread nD τ).loc main_arg2)) := by
  have e0 : ∀ t : Fin cfg0.N, win0_0.index t = ![t.val / 4 % 16, t.val % 4, 0] := (by decide +kernel : ∀ t : Fin grid0.N, _)
  have e1 : ∀ t : Fin cfg0.N, win0_1.index t = ![t.val / 4 % 16, 0, 0] := (by decide +kernel : ∀ t : Fin grid0.N, _)
  have e2 : ∀ t : Fin cfg0.N, win0_2.index t = ![0, t.val / 64] := (by decide +kernel : ∀ t : Fin grid0.N, _)
  have e3 : ∀ t : Fin cfg0.N, win0_3.index t = ![t.val / 4 % 16, t.val % 4, t.val / 64] := (by decide +kernel : ∀ t : Fin grid0.N, _)
  refine (dats m 0 c).arrAt_eq_of_covers 3 _ (by decide +kernel) fun t hf y => ?_
  blk_simp
  rw [after0_3]
  frame_out
  have ht : t.val < 128 := t.isLt
  change S1x512x2176.Idx at y
  obtain ⟨z, r, n, rfl⟩ : ∃ (z : Fin 1) (r : Fin 512) (n : Fin 2176), y = ix3 z r n := ⟨y 0, y 1, y 2, eq_ix3 y⟩
  obtain rfl : z = 0 := Subsingleton.elim _ _
  have hr := r.isLt
  have hn := n.isLt
  obtain ⟨B, hB⟩ : ∃ B : Fin 16, B.val = t.val / 4 % 16 := ⟨⟨t.val / 4 % 16, by omega⟩, rfl⟩
  obtain ⟨R, hR⟩ : ∃ R : Fin 2048, R.val = t.val % 4 * 512 + r.val := ⟨⟨t.val % 4 * 512 + r.val, by omega⟩, rfl⟩
  obtain ⟨N, hN⟩ : ∃ N : Fin 4352, N.val = t.val / 64 * 2176 + n.val := ⟨⟨t.val / 64 * 2176 + n.val, by omega⟩, rfl⟩
  have e : ((View.whole main_v15).slice (win0_3.rect t)).emb (ix3 0 r n) = ix3 B R N := by
    blk_ext [e3, hB, hR, hN]
  have h0 : ∀ (k : Fin 2048), (iblk m c 0 t : Vec Ideal S1x512x2048 .f32) (ix3 0 r k)
      = (m ((c : Thread nD τ).loc main_arg0) : Vec Ideal S16x2048x2048 .f32) (ix3 B R k) := fun k => by
    blk_simp [iblk]
    rw [V_main_arg0]
    exact congrArg _ (by blk_ext [e0, hB, hR])
  have h1 : ∀ (j : Fin 6) (k : Fin 2048), (iblk m c 1 t : Vec Ideal S1x6x2048 .f32) (ix3 0 j k)
      = (m ((c : Thread nD τ).loc main_arg1) : Vec Ideal S16x12288 .f32) (ix2 B ⟨j.val * 2048 + k.val, by omega⟩) := fun j k => by
    blk_simp [iblk]
    refine Eq.trans (congrArg _ ?_) (mod_apply m c B j k)
    blk_ext [e1, hB]
  have h2 : ∀ (k : Fin 2048), (iblk m c 2 t : Vec Ideal S2048x2176 .bf16) (ix2 k n)
      = wcol (m ((c : Thread nD τ).loc main_arg2)) k N := fun k => by
    blk_simp [iblk]
    refine Eq.trans (congrArg _ ?_) (w_apply m c k N)
    blk_ext [e2, hN]
  rw [e, pay_apply, ref_apply, sum_mul_scale _ _ (by split_ifs; exacts [unit_nonneg.1, zero_le_one])
    (by split_ifs; exacts [unit_nonneg.2, EReal.coe_ne_top 1])]
  refine Finset.sum_congr (M := EReal) rfl fun k _ => ?_
  have h3 : (View.ld (iblk m c 1 t) r0_0 : Vec Ideal S1x1x2048 .f32) (ix3 0 0 k)
      = (m ((c : Thread nD τ).loc main_arg1) : Vec Ideal S16x12288 .f32) (ix2 B ⟨k.val, by omega⟩) := by
    refine Eq.trans ?_ ((h1 0 k).trans (congrArg _ (congrArg _ (Fin.ext (by dsimp only; omega)))))
    pointwise
  have h4 : (View.ld (iblk m c 1 t) r0_1 : Vec Ideal S1x1x2048 .f32) (ix3 0 0 k)
      = (m ((c : Thread nD τ).loc main_arg1) : Vec Ideal S16x12288 .f32) (ix2 B ⟨2048 + k.val, by omega⟩) := by
    refine Eq.trans ?_ ((h1 1 k).trans (congrArg _ (congrArg _ (Fin.ext (by dsimp only; omega)))))
    pointwise
  rw [h0, h2, h3, h4, wcol, hid, mul_assoc]

/-- The kernel and the plain text, from the same arguments, end with the same array. -/
theorem algebraic : Cert.algebraic_QkvIdeal_QkvRefIdeal
    (hQkvIdeal := Cert.QkvIdeal.Gen.facts) (hQkvRefIdeal := Cert.QkvRefIdeal.Gen.facts) := by
  intro m g m' g' _ h
  refine ⟨fun c => (dats m 0 c).arrAt 3 cfg0.N, run_blocks m g, ?_⟩
  refine (θ_run Cert.QkvRefIdeal.defs _ _).mono (fun r h' c => ⟨?_, (h' c).2⟩) (Cert.QkvRefIdeal.Value.run (F := Ideal) m' g')
  obtain ⟨a0, a1, a2⟩ := h c
  refine (h' c).1.trans ((Cert.QkvRefIdeal.Read.val_main_v30_eq m' c).trans ?_)
  rw [a0, a1, a2]
  exact (final m c).symm

end Cert.Proof.Qkv

end
-- ==== Proof.Ada.lean ====
/- The conditioning product: the kernel's column blocks are the plain product's. -/
module

public import proofs.«01_k».proof.Defs
public import proofs.«01_k».proof.Proof.Gen.AdaIdeal.Value
public import proofs.«01_k».proof.Proof.Gen.AdaRefIdeal.Run
public import proofs.«01_k».proof.Proof.Gen.AdaRefIdeal.Read
public import Idealize.ShloMosaic.Lib.Pointwise
public import Idealize.ShloMosaic.Lib.Pipeline.ValueKit

@[expose] public section

noncomputable section

namespace Cert.Proof.Ada

open Cert.AdaIdeal Cert.AdaIdeal.Gen Cert.AdaIdeal.Value Idealize.ShloMosaic Idealize.ShloMosaic.TcCoe Idealize.SL.Sem

/-- The block's payload at an index. -/
theorem pay_apply (a : Vec Ideal S16x2048 .f32) (w : Vec Ideal S1x2048x1024 .f32) (b : Vec Ideal S1x1024 .f32)
    (r : Fin 16) (s : Fin 1024) :
    k0_pay1 (F := Ideal) a w b (ix2 r s)
      = (∑ k : Fin 2048, (a (ix2 r k) * Ideal.div 1 (1 + Ideal.exp (-(a (ix2 r k))))) * w (ix3 0 k s)) + b (ix2 0 s) := by
  pointwise [Gen.k0_pay1]
  rfl

/-- The plain product at an index. -/
theorem ref_apply (a : Vec Ideal S16x2048 .f32) (w : Vec Ideal S1x2048x12288 .f32) (b : Vec Ideal S1x12288 .f32)
    (r : Fin 16) (s : Fin 12288) :
    Cert.AdaRefIdeal.Read.val_main_v6 (F := Ideal) a w b (ix2 r s)
      = (∑ k : Fin 2048, (a (ix2 r k) * Ideal.div 1 (1 + Ideal.exp (-(a (ix2 r k))))) * w (ix3 0 k s)) + b (ix2 0 s) := by
  pointwise [Cert.AdaRefIdeal.Read.val_main_v6, Cert.AdaRefIdeal.Read.val_main_v2, Cert.AdaRefIdeal.Read.val_main_v5,
    Cert.AdaRefIdeal.Read.val_main_v4, Cert.AdaRefIdeal.Read.val_main_v3, Cert.AdaRefIdeal.Read.val_main_v1,
    Cert.AdaRefIdeal.Read.val_main_v0, Cert.AdaRefIdeal.Read.val_main_call0_v5, Cert.AdaRefIdeal.Read.val_main_call0_v4,
    Cert.AdaRefIdeal.Read.val_main_call0_v3, Cert.AdaRefIdeal.Read.val_main_call0_v2, Cert.AdaRefIdeal.Read.val_main_call0_v1,
    Cert.AdaRefIdeal.Read.val_main_call0_v0, Cert.AdaRefIdeal.Read.val_main_call0_cst, Cert.AdaRefIdeal.Read.val_main_call0_cst_0]

variable (m : (ℓ : Loc nD τ sig) → Buf (Elt Ideal) ℓ)

/-- The result array after the run. -/
theorem final (c : Dev nD) : (dats m 0 c).arrAt 3 cfg0.N
    = Cert.AdaRefIdeal.Read.val_main_v6 (F := Ideal) (m ((c : Thread nD τ).loc main_arg0))
        (m ((c : Thread nD τ).loc main_arg1)) (m ((c : Thread nD τ).loc main_arg2)) := by
  have e0 : ∀ t : Fin cfg0.N, win0_0.index t = ![0, 0] := (by decide +kernel : ∀ t : Fin grid0.N, _)
  have e1 : ∀ t : Fin cfg0.N, win0_1.index t = ![0, 0, t.val] := (by decide +kernel : ∀ t : Fin grid0.N, _)
  have e2 : ∀ t : Fin cfg0.N, win0_2.index t = ![0, t.val] := (by decide +kernel : ∀ t : Fin grid0.N, _)
  have e3 : ∀ t : Fin cfg0.N, win0_3.index t = ![0, t.val] := (by decide +kernel : ∀ t : Fin grid0.N, _)
  refine (dats m 0 c).arrAt_eq_of_covers 3 _ (by decide +kernel) fun t hf y => ?_
  blk_simp
  rw [after0_3]
  frame_out
  have ht : t.val < 12 := t.isLt
  change S16x1024.Idx at y
  obtain ⟨r, s, rfl⟩ : ∃ (r : Fin 16) (s : Fin 1024), y = ix2 r s := ⟨y 0, y 1, eq_ix2 y⟩
  have hs := s.isLt
  have e : ((View.whole main_v0).slice (win0_3.rect t)).emb (ix2 r s) = ix2 r (⟨t.val * 1024 + s.val, by omega⟩ : Fin 12288) := by
    blk_ext [e3]
  rw [e, pay_apply, ref_apply]
  have h0 : ∀ (k : Fin 2048), (iblk m c 0 t : Vec Ideal S16x2048 .f32) (ix2 r k)
      = (m ((c : Thread nD τ).loc main_arg0) : Vec Ideal S16x2048 .f32) (ix2 r k) := fun k => by
    blk_simp [iblk]
    rw [V_main_arg0]
    exact congrArg _ (by blk_ext [e0])
  have h1 : ∀ (k : Fin 2048), (iblk m c 1 t : Vec Ideal S1x2048x1024 .f32) (ix3 0 k s)
      = (m ((c : Thread nD τ).loc main_arg1) : Vec Ideal S1x2048x12288 .f32)
          (ix3 0 k (⟨t.val * 1024 + s.val, by omega⟩ : Fin 12288)) := fun k => by
    blk_simp [iblk]
    rw [V_main_arg1]
    exact congrArg _ (by blk_ext [e1])
  have h2 : (iblk m c 2 t : Vec Ideal S1x1024 .f32) (ix2 0 s)
      = (m ((c : Thread nD τ).loc main_arg2) : Vec Ideal S1x12288 .f32)
          (ix2 0 (⟨t.val * 1024 + s.val, by omega⟩ : Fin 12288)) := by
    blk_simp [iblk]
    rw [V_main_arg2]
    exact congrArg _ (by blk_ext [e2])
  simp only [h0, h1, h2]

/-- The kernel and the plain text, from the same arguments, end with the same array. -/
theorem algebraic : Cert.algebraic_AdaIdeal_AdaRefIdeal
    (hAdaIdeal := Cert.AdaIdeal.Gen.facts) (hAdaRefIdeal := Cert.AdaRefIdeal.Gen.facts) := by
  intro m g m' g' _ h
  refine ⟨fun c => (dats m 0 c).arrAt 3 cfg0.N, run_blocks m g, ?_⟩
  refine (θ_run Cert.AdaRefIdeal.defs _ _).mono (fun r h' c => ⟨?_, (h' c).2⟩) (Cert.AdaRefIdeal.Value.run (F := Ideal) m' g')
  obtain ⟨a0, a1, a2⟩ := h c
  rw [(h' c).1, a0, a1, a2]
  exact (final m c).symm

end Cert.Proof.Ada

end
-- ==== Proof.SwaMath.lean ====
/- The softmax with a sink over the extended reals: in powers of e with logits in units of ln 2, and in powers of two. -/
module

public import proofs.«01_k».proof.Proof.Sums
public import Mathlib.Analysis.SpecialFunctions.Pow.Real

@[expose] public section

noncomputable section

namespace Cert.Proof.Swa

open Idealize.ShloMosaic

/-- The stand-in for an absent maximum. -/
abbrev low : EReal := Ideal.ofBits FTy.f32 4286578688#32

/-- The natural logarithm of two. -/
abbrev ln2 : EReal := Ideal.log 2

theorem low_eq : low = ⊥ := by unfold low Ideal.ofBits; simp [Ideal.ieee]

theorem ln2_eq : ln2 = ((Real.log 2 : ℝ) : EReal) := by
  show Ideal.log 2 = _
  have : (2 : EReal) = ((2 : ℝ) : EReal) := rfl
  rw [this]
  show (if (2 : ℝ) ≤ 0 then ⊥ else ((Real.log 2 : ℝ) : EReal)) = _
  rw [if_neg (by norm_num)]

theorem ln2_pos : 0 < ln2 := by
  rw [ln2_eq]; exact_mod_cast Real.log_pos (by norm_num)

theorem ln2_top : ln2 ≠ ⊤ := by
  rw [ln2_eq]; exact EReal.coe_ne_top _

/-- A power of e at a multiple of ln 2 is a power of two. -/
theorem exp_ln2 (x : EReal) : Ideal.exp (x * ln2) = Ideal.exp2 x := by
  rw [ln2_eq]
  have hp : (0 : ℝ) < Real.log 2 := Real.log_pos (by norm_num)
  induction x with
  | bot => rw [EReal.bot_mul_coe_of_pos hp]; rfl
  | top => rw [EReal.top_mul_coe_of_pos hp]; rfl
  | coe r =>
    rw [← EReal.coe_mul]
    show ((Real.exp (r * Real.log 2) : ℝ) : EReal) = ((Real.rpow 2 r : ℝ) : EReal)
    congr 1
    rw [Real.rpow_eq_pow, Real.rpow_def_of_pos (by norm_num), mul_comm]

theorem add_ln2 (x y : EReal) : x * ln2 + y * ln2 = (x + y) * ln2 :=
  (EReal.right_distrib_of_nonneg_of_ne_top ln2_pos.le ln2_top x y).symm

theorem sub_ln2 (x y : EReal) : x * ln2 - y * ln2 = (x - y) * ln2 := by
  rw [sub_eq_add_neg, sub_eq_add_neg, ← EReal.neg_mul, add_ln2]

theorem bot_ln2 : (⊥ : EReal) * ln2 = ⊥ := by
  rw [ln2_eq]; exact EReal.bot_mul_coe_of_pos (Real.log_pos (by norm_num))

theorem max_ln2 (x y : EReal) : max (x * ln2) (y * ln2) = max x y * ln2 := by
  have hm : Monotone (fun z : EReal => z * ln2) := fun a b h => mul_le_mul_of_nonneg_right h ln2_pos.le
  exact (hm.map_max (a := x) (b := y)).symm

theorem fold_ln2 {ι : Type} (s : Finset ι) (L : ι → EReal) :
    s.fold max low (fun k => L k * ln2) = s.fold max low L * ln2 := by
  classical
  induction s using Finset.induction_on with
  | empty => simp only [Finset.fold_empty]; rw [low_eq, bot_ln2]
  | insert a s ha ih => rw [Finset.fold_insert ha, Finset.fold_insert ha, ih, max_ln2]

/-- The largest logit of a row, its sink counted. -/
def rowTop (L : Fin 256 → EReal) (S : EReal) : EReal := max (Finset.univ.fold max low L) S

/-- The weight of a key before it is normalised. -/
def weight (L : Fin 256 → EReal) (S : EReal) (k : Fin 256) : EReal := Ideal.exp2 (L k - rowTop L S)

/-- The normaliser. -/
def total (L : Fin 256 → EReal) (S : EReal) : EReal := ∑ k, weight L S k + Ideal.exp2 (S - rowTop L S)

/-- The attention of one query over its keys. -/
def attend (L : Fin 256 → EReal) (S : EReal) (v : Fin 256 → EReal) : EReal :=
  ∑ k, v k * Ideal.div (weight L S k) (total L S)

theorem exp2_nonneg (x : EReal) : 0 ≤ Ideal.exp2 x := by
  induction x with
  | bot => exact le_rfl
  | top => exact le_top
  | coe r =>
    show (0 : EReal) ≤ ((Real.rpow 2 r : ℝ) : EReal)
    exact_mod_cast (Real.rpow_nonneg (by norm_num : (0:ℝ) ≤ 2) r)

theorem exp2_pos {x : EReal} (h : x ≠ ⊥) : 0 < Ideal.exp2 x := by
  induction x with
  | bot => exact absurd rfl h
  | top => exact EReal.zero_lt_top
  | coe r =>
    show (0 : EReal) < ((Real.rpow 2 r : ℝ) : EReal)
    exact_mod_cast (Real.rpow_pos_of_pos (by norm_num : (0:ℝ) < 2) r)

theorem rowTop_ne_top {L : Fin 256 → EReal} {S : EReal} (hL : ∀ k, L k ≠ ⊤) (hS : S ≠ ⊤) : rowTop L S ≠ ⊤ := by
  have : ∀ s : Finset (Fin 256), s.fold max low L ≠ ⊤ := by
    intro s
    induction s using Finset.induction_on with
    | empty => rw [Finset.fold_empty, low_eq]; exact bot_ne_top
    | insert a s ha ih => rw [Finset.fold_insert ha]; exact (max_lt (hL a).lt_top ih.lt_top).ne
  exact (max_lt (this _).lt_top hS.lt_top).ne

theorem norm_pos {L : Fin 256 → EReal} {S : EReal} (hL : ∀ k, L k ≠ ⊤) (hS : S ≠ ⊤) (hS' : S ≠ ⊥) : 0 < total L S := by
  have ht := rowTop_ne_top hL hS
  have h1 : (0 : EReal) ≤ ∑ k, weight L S k := Finset.sum_nonneg fun k _ => exp2_nonneg _
  have h2 : 0 < Ideal.exp2 (S - rowTop L S) := exp2_pos (by
    rw [sub_eq_add_neg, Ne, EReal.add_eq_bot_iff]
    rintro (h | h)
    · exact hS' h
    · exact ht (EReal.neg_eq_bot_iff.mp h))
  exact h2.trans_le (le_add_of_nonneg_left h1)

theorem inv_nonneg {d : EReal} (h : 0 < d) : 0 ≤ d⁻¹ := EReal.inv_nonneg_of_nonneg h.le

theorem inv_ne_top (d : EReal) : d⁻¹ ≠ ⊤ := by
  induction d with
  | bot => simp
  | top => simp
  | coe r => rw [← EReal.coe_inv]; exact EReal.coe_ne_top _

/-- Weighing first and normalising the sum is normalising the weights first. -/
theorem attend_eq {L : Fin 256 → EReal} {S : EReal} (v : Fin 256 → EReal) (hL : ∀ k, L k ≠ ⊤) (hS : S ≠ ⊤) (hS' : S ≠ ⊥) :
    (∑ k, weight L S k * v k) * Ideal.div 1 (total L S) = attend L S v := by
  have hp := norm_pos hL hS hS'
  unfold attend
  simp only [Ideal.div, if_neg hp.ne', one_mul]
  rw [sum_mul_scale _ _ (inv_nonneg hp) (inv_ne_top _)]
  refine Finset.sum_congr rfl fun k _ => ?_
  rw [mul_comm (weight L S k) (v k), mul_assoc]

/-- The same attention with powers of e, the logits and the sink in units of ln 2. -/
theorem weight_ln2 (L : Fin 256 → EReal) (S : EReal) (k : Fin 256) :
    Ideal.exp (L k * ln2 - max (Finset.univ.fold max low (fun k => L k * ln2)) (S * ln2)) = weight L S k := by
  rw [fold_ln2, max_ln2, sub_ln2, exp_ln2]; rfl

theorem norm_ln2 (L : Fin 256 → EReal) (S : EReal) :
    ∑ k, Ideal.exp (L k * ln2 - max (Finset.univ.fold max low (fun k => L k * ln2)) (S * ln2)) +
      Ideal.exp (S * ln2 - max (Finset.univ.fold max low (fun k => L k * ln2)) (S * ln2)) = total L S := by
  simp only [weight_ln2]
  rw [fold_ln2, max_ln2, sub_ln2, exp_ln2]; rfl

/-- A key that is not seen has no weight, whatever its value. -/
theorem attend_congr {L : Fin 256 → EReal} {S : EReal} {v w : Fin 256 → EReal} (h : ∀ k, L k = ⊥ ∨ v k = w k)
    (hL : ∀ k, L k ≠ ⊤) (hS : S ≠ ⊤) (hS' : S ≠ ⊥) : attend L S v = attend L S w := by
  have hp := norm_pos hL hS hS'
  refine Finset.sum_congr rfl fun k _ => ?_
  rcases h k with h | h
  · have e : weight L S k = 0 := by
      unfold weight
      rw [h, EReal.bot_sub]; rfl
    simp [Ideal.div, if_neg hp.ne', e]
  · rw [h]

end Cert.Proof.Swa

end
-- ==== Proof.SwaPiece.lean ====
/- One head group of the sliding-window attention kernel, read at an index. -/
module

public import proofs.«01_k».proof.Defs
public import proofs.«01_k».proof.Proof.Gen.SwaIdeal.Value
public import proofs.«01_k».proof.Proof.SwaMath
public import Idealize.ShloMosaic.Lib.Pointwise
public import Idealize.ShloMosaic.Lib.Pipeline.ValueKit

@[expose] public section

noncomputable section

namespace Cert.Proof.Swa

open Cert.SwaIdeal Cert.SwaIdeal.Gen Cert.SwaIdeal.Value Idealize.ShloMosaic Idealize.ShloMosaic.TcCoe Idealize.SL.Sem

/-- What the kernel stores for one pair of heads. -/
def piece (P C : Vec Ideal S1x128x256 .bf16) (Q : Vec Ideal S1x128x128 .bf16) (B0 B1 : Vec Ideal S1x1x128x256 .f32) (S0 S1 : EReal) :
    FVec Ideal S1x128x128 .bf16 :=
  k0_pay56 (k0_pay24 (k0_pay12 P C Q B0) S0) (k0_pay27 (k0_pay13 P C Q B1) S1)
    (k0_pay48 (k0_pay10 P C) (k0_pay23 (k0_pay12 P C Q B0) S0)) (k0_pay49 (k0_pay11 P C) (k0_pay26 (k0_pay13 P C Q B1) S1))
    (FloatOps.ofBits FTy.f32 1065353216#32)

/-- A key row, of the previous block or of this one, and beside it its value row. -/
def kv (P C : Vec Ideal S1x128x256 .bf16) (k : Fin 256) (c : Fin 256) : EReal :=
  if h : k.val < 128 then P (ix3 0 ⟨k.val, h⟩ c) else C (ix3 0 ⟨k.val - 128, by omega⟩ c)

/-- The column of head `h` of a pair, at `d`. -/
abbrev col (h : Fin 2) (d : Fin 64) : Fin 128 := ⟨h.val * 64 + d.val, by omega⟩

/-- The logits of one query of head `h` of a pair. -/
def logit (P C : Vec Ideal S1x128x256 .bf16) (Q : Vec Ideal S1x128x128 .bf16) (B : Vec Ideal S1x1x128x256 .f32) (h : Fin 2)
    (r : Fin 128) (k : Fin 256) : EReal :=
  ∑ d : Fin 64, Q (ix3 0 r (col h d)) * kv P C k ⟨h.val * 64 + d.val, by omega⟩ + B (ix4 0 0 r k)

theorem low_half (a b : EReal) (c : Fin 128) :
    Scalar.select (α := EReal) (IntOp.cmpi CmpIPredicate.slt (BitVec.ofNat 32 c.val) 64#32) a b = if c.val < 64 then a else b := by
  have h : ∀ c : Fin 128, IntOp.cmpi CmpIPredicate.slt (BitVec.ofNat 32 c.val) 64#32 = if c.val < 64 then 1#1 else 0#1 := by
    decide +kernel
  rw [h c]
  split <;> rfl

variable (P C : Vec Ideal S1x128x256 .bf16) (Q : Vec Ideal S1x128x128 .bf16) (B : Vec Ideal S1x1x128x256 .f32)

set_option maxRecDepth 16384 in
theorem pay6_apply (k : Fin 256) (c : Fin 128) :
    k0_pay6 P C (ix2 k c) = if c.val < 64 then kv P C k ⟨c.val, by omega⟩ else 0 := by
  pointwise [k0_pay6, k0_pay5, k0_pay4, k0_pay3, k0_pay2, k0_pay1]
  exact low_half _ _ c

set_option maxRecDepth 16384 in
theorem pay7_apply (k : Fin 256) (c : Fin 128) :
    k0_pay7 P C (ix2 k c) = if c.val < 64 then 0 else kv P C k ⟨c.val, by omega⟩ := by
  pointwise [k0_pay7, k0_pay5, k0_pay4, k0_pay3, k0_pay2, k0_pay1]
  exact low_half _ _ c

set_option maxRecDepth 16384 in
theorem pay10_apply (k : Fin 256) (c : Fin 128) :
    k0_pay10 P C (ix2 k c) = if c.val < 64 then kv P C k ⟨128 + c.val, by omega⟩ else 0 := by
  pointwise [k0_pay10, k0_pay9, k0_pay8, k0_pay3, k0_pay2, k0_pay1]
  exact low_half _ _ c

set_option maxRecDepth 16384 in
theorem pay11_apply (k : Fin 256) (c : Fin 128) :
    k0_pay11 P C (ix2 k c) = if c.val < 64 then 0 else kv P C k ⟨128 + c.val, by omega⟩ := by
  pointwise [k0_pay11, k0_pay9, k0_pay8, k0_pay3, k0_pay2, k0_pay1]
  exact low_half _ _ c

/-- A sum over the lanes, by halves. -/
theorem sum_halves (f : Fin 128 → EReal) : ∑ c, f c = ∑ d : Fin 64, f (col 0 d) + ∑ d : Fin 64, f (col 1 d) := by
  rw [Fin.sum_univ_add (a := 64) (b := 64) f]
  refine congrArg₂ (· + ·) (Finset.sum_congr rfl fun d _ => congrArg f (Fin.ext ?_)) (Finset.sum_congr rfl fun d _ => congrArg f (Fin.ext ?_))
  · show d.val = 0 * 64 + d.val; omega
  · show 64 + d.val = 1 * 64 + d.val; omega

theorem col0_lt (d : Fin 64) : (col 0 d).val < 64 := by show 0 * 64 + d.val < 64; omega

theorem col1_not_lt (d : Fin 64) : ¬ (col 1 d).val < 64 := by show ¬ 1 * 64 + d.val < 64; omega

set_option maxRecDepth 16384 in
theorem pay12_apply (r : Fin 128) (k : Fin 256) : k0_pay12 P C Q B (ix2 r k) = logit P C Q B 0 r k := by
  pointwise [k0_pay12]
  rw [sum_halves]
  simp only [pay6_apply, if_pos (col0_lt _), if_neg (col1_not_lt _), mul_zero, Finset.sum_const_zero, add_zero]
  rfl

set_option maxRecDepth 16384 in
theorem pay13_apply (r : Fin 128) (k : Fin 256) : k0_pay13 P C Q B (ix2 r k) = logit P C Q B 1 r k := by
  pointwise [k0_pay13]
  rw [sum_halves]
  simp only [pay7_apply, if_pos (col0_lt _), if_neg (col1_not_lt _), mul_zero, Finset.sum_const_zero, zero_add]
  rfl

section Softmax

variable (X : FVec Ideal S128x256 .f32) (S : EReal) (r : Fin 128)

set_option maxRecDepth 16384 in
theorem pay22_apply : k0_pay22 (F := Ideal) X S (ix2 r 0) = rowTop (fun k => X (ix2 r k)) S := by
  pointwise [k0_pay22]
  rfl

set_option maxRecDepth 16384 in
theorem pay23_apply (k : Fin 256) : k0_pay23 (F := Ideal) X S (ix2 r k) = weight (fun k => X (ix2 r k)) S k := by
  pointwise [k0_pay23]
  rw [pay22_apply]
  rfl

set_option maxRecDepth 16384 in
theorem pay24_apply : k0_pay24 (F := Ideal) X S (ix2 r 0) = total (fun k => X (ix2 r k)) S := by
  pointwise [k0_pay24]
  rw [pay22_apply]
  simp only [pay23_apply]
  rfl

theorem pay26_eq : k0_pay26 (F := Ideal) X S = k0_pay23 (F := Ideal) X S := rfl

theorem pay27_eq : k0_pay27 (F := Ideal) X S = k0_pay24 (F := Ideal) X S := rfl

end Softmax

set_option maxRecDepth 16384 in
theorem pay48_apply (V : FVec Ideal S256x128 .bf16) (X : FVec Ideal S128x256 .f32) (r c : Fin 128) :
    k0_pay48 (F := Ideal) V X (ix2 r c) = ∑ k, X (ix2 r k) * V (ix2 k c) := by
  pointwise [k0_pay48]

theorem pay49_eq (V : FVec Ideal S256x128 .bf16) (X : FVec Ideal S128x256 .f32) : k0_pay49 (F := Ideal) V X = k0_pay48 (F := Ideal) V X := rfl

set_option maxRecDepth 16384 in
theorem pay56_apply (n0 n1 : FVec Ideal S128x1 .f32) (o0 o1 : FVec Ideal S128x128 .f32) (r c : Fin 128) :
    k0_pay56 (F := Ideal) n0 n1 o0 o1 (FloatOps.ofBits FTy.f32 1065353216#32) (ix3 0 r c)
      = o0 (ix2 r c) * Ideal.div 1 (n0 (ix2 r 0)) + o1 (ix2 r c) * Ideal.div 1 (n1 (ix2 r 0)) := by
  pointwise [k0_pay56]

/-- A pair of heads at an index: the attention of the head the column belongs to. -/
theorem piece_apply (B0 B1 : Vec Ideal S1x1x128x256 .f32) (S0 S1 : EReal) (r : Fin 128) (h : Fin 2) (d : Fin 64)
    (hL : ∀ k, logit P C Q (if h = 0 then B0 else B1) h r k ≠ ⊤) (hS : (if h = 0 then S0 else S1) ≠ ⊤) (hS' : (if h = 0 then S0 else S1) ≠ ⊥) :
    piece P C Q B0 B1 S0 S1 (ix3 0 r (col h d))
      = attend (logit P C Q (if h = 0 then B0 else B1) h r) (if h = 0 then S0 else S1) (fun k => kv P C k ⟨128 + (h.val * 64 + d.val), by omega⟩) := by
  unfold piece
  rw [pay56_apply, pay26_eq, pay27_eq, pay49_eq, pay24_apply, pay24_apply, pay48_apply, pay48_apply]
  simp only [pay23_apply, pay12_apply, pay13_apply, pay10_apply, pay11_apply]
  rw [← attend_eq _ hL hS hS']
  match h with
  | 0 =>
    simp only [if_pos (col0_lt _), mul_zero, Finset.sum_const_zero, zero_mul, add_zero, if_true]
  | 1 =>
    simp only [if_neg (col1_not_lt _), mul_zero, Finset.sum_const_zero, zero_mul, zero_add]
    rfl

end Cert.Proof.Swa

end
-- ==== Proof.SwaWords.lean ====
/- Which pairs of a query and a key of its window are seen: the comparisons of the words read as statements about numbers. -/
module

public import Idealize.ShloMosaic.PureOps.Ideal

@[expose] public section

namespace Cert.Proof.Swa

open Idealize.ShloMosaic

/-- The key is no later than the query and less than a window before it. -/
def Band (r : Fin 128) (k : Fin 256) : Prop := k.val ≤ r.val + 128 ∧ r.val < k.val

instance (r : Fin 128) (k : Fin 256) : Decidable (Band r k) := inferInstanceAs (Decidable (_ ∧ _))

theorem band_word (r : Fin 128) (k : Fin 256) :
    IntOp.andi (IntOp.cmpi CmpIPredicate.sge (IntOp.subi (IntOp.addi (BitVec.ofNat 32 r.val) 128#32) (BitVec.ofNat 32 k.val)) 0#32)
      (IntOp.cmpi CmpIPredicate.slt (IntOp.subi (IntOp.addi (BitVec.ofNat 32 r.val) 128#32) (BitVec.ofNat 32 k.val)) 128#32)
      = if Band r k then 1#1 else 0#1 := by
  revert r k
  decide +kernel

theorem late_word (k : Fin 256) :
    IntOp.cmpi CmpIPredicate.sge (BitVec.ofNat 32 k.val) 128#32 = if 128 ≤ k.val then 1#1 else 0#1 := by
  revert k
  decide +kernel

theorem later_word (i : Fin 16) :
    IntOp.cmpi CmpIPredicate.sgt (BitVec.ofNat 32 i.val) 0#32 = if 0 < i.val then 1#1 else 0#1 := by
  revert i
  decide +kernel

theorem and_word (p q : Prop) [Decidable p] [Decidable q] :
    IntOp.andi (if p then 1#1 else 0#1) (if q then 1#1 else 0#1) = if p ∧ q then 1#1 else 0#1 := by
  by_cases hp : p <;> by_cases hq : q <;> simp [hp, hq] <;> rfl

theorem or_word (p q : Prop) [Decidable p] [Decidable q] :
    IntOp.ori (if p then 1#1 else 0#1) (if q then 1#1 else 0#1) = if p ∨ q then 1#1 else 0#1 := by
  by_cases hp : p <;> by_cases hq : q <;> simp [hp, hq] <;> rfl

end Cert.Proof.Swa

end
-- ==== Proof.SwaRef.lean ====
/- The sliding-window attention reference, read at an index. -/
module

public import proofs.«01_k».proof.Defs
public import proofs.«01_k».proof.Proof.Gen.SwaRefIdeal.Read
public import proofs.«01_k».proof.Proof.SwaMath
public import proofs.«01_k».proof.Proof.SwaWords
public import Idealize.ShloMosaic.Lib.Pointwise
public import Idealize.ShloMosaic.Lib.Pipeline.ValueKit

@[expose] public section

noncomputable section

namespace Cert.Proof.SwaRef

open Cert.SwaRefIdeal Cert.SwaRefIdeal.Read Idealize.ShloMosaic Idealize.ShloMosaic.TcCoe Idealize.SL.Sem
open Cert.Proof.Swa

variable (x0 : (⟨S16x2048x4352, .bf16⟩ : BufTy).Contents (Elt Ideal)) (x1 : (⟨S16, .f32⟩ : BufTy).Contents (Elt Ideal))
variable (x2 : (⟨S2x16x128x256, .f32⟩ : BufTy).Contents (Elt Ideal))
variable (b i : Fin 16) (r : Fin 128) (k : Fin 256) (g : Fin 8) (h : Fin 2) (d : Fin 64)

/-- A key row, of the previous block (block 0 before the first) or of this one, and beside it its value row. -/
def row (c : Fin 256) : EReal :=
  if _ : k.val < 128 then x0 (ix3 b ⟨(i.val - 1) * 128 + k.val, by omega⟩ ⟨4096 + c.val, by omega⟩)
  else x0 (ix3 b ⟨i.val * 128 + (k.val - 128), by omega⟩ ⟨4096 + c.val, by omega⟩)

/-- The page of the bias table: the first block has its own. -/
def page : Fin 2 := if 0 < i.val then 1 else 0

/-- The query sees the key. -/
def Seen (p : Fin 2) : Prop := Band r k ∧ (p = 1 ∨ 128 ≤ k.val)

instance (p : Fin 2) : Decidable (Seen r k p) := inferInstanceAs (Decidable (_ ∧ _))

/-- The logits of one query of query head `g` at key head `h`. -/
def logits : EReal :=
  ∑ d : Fin 64, x0 (ix3 b ⟨i.val * 128 + r.val, by omega⟩ ⟨3072 + (g.val * 128 + h.val * 64 + d.val), by omega⟩)
      * row x0 b i k ⟨h.val * 64 + d.val, by omega⟩
    + x2 (ix4 (page i) ⟨h.val * 8 + g.val, by omega⟩ r k)

/-- The hidden pairs' biases are −∞, no logit is +∞ and no sink is infinite. -/
structure Tame : Prop where
  hidden : ∀ (p : Fin 2) (n : Fin 16) (r : Fin 128) (k : Fin 256), ¬ Seen r k p → x2 (ix4 p n r k) = ⊥
  logit : ∀ b i r k g h, logits x0 x2 b i r k g h ≠ ⊤
  sink : ∀ n : Fin 16, x1 (ix1 n) ≠ ⊤ ∧ x1 (ix1 n) ≠ ⊥

theorem page_eq_one : page i = 1 ↔ 0 < i.val := by
  unfold page; split <;> simp [*]

set_option maxRecDepth 16384 in
theorem v3_apply :
    val_main_v3 (F := Ideal) x0 (ix6 b i r g h d)
      = x0 (ix3 b ⟨i.val * 128 + r.val, by omega⟩ ⟨3072 + (g.val * 128 + h.val * 64 + d.val), by omega⟩) := by
  pointwise [val_main_v3, val_main_v2, val_main_v1]

set_option maxRecDepth 16384 in
theorem v10_apply (hs : 0 < i.val ∨ 128 ≤ k.val) :
    val_main_v10 (F := Ideal) x0 (ix5 b i k h d) = row x0 b i k ⟨h.val * 64 + d.val, by omega⟩ := by
  pointwise [val_main_v10, val_main_v9, val_main_v8, val_main_v5, val_main_v4, val_main_v1, val_main_call0_v0, val_main_c]
  unfold row
  by_cases hk : k.val < 128
  · have h2 : (1 ≤ i.val ∧ i.val - 1 < 16) ∧ k.val < 128 := ⟨by omega, hk⟩
    simp only [dif_pos hk, dif_pos h2]
  · simp only [dif_neg hk]

set_option maxRecDepth 16384 in
theorem v13_apply (hs : 0 < i.val ∨ 128 ≤ k.val) :
    val_main_v13 (F := Ideal) x0 (ix5 b i k h d) = row x0 b i k ⟨128 + (h.val * 64 + d.val), by omega⟩ := by
  pointwise [val_main_v13, val_main_v12, val_main_v11, val_main_v7, val_main_v6, val_main_v1, val_main_call1_v0, val_main_c_0]
  unfold row
  have e : ∀ (n : Fin 2048) (h1 h2), x0 (ix3 b n ⟨4224 + (h.val * 64 + d.val), h1⟩) = x0 (ix3 b n ⟨4096 + (128 + (h.val * 64 + d.val)), h2⟩) :=
    fun n h1 h2 => congrArg x0 (congrArg (ix3 b n) (Fin.ext (by show 4224 + _ = 4096 + (128 + _); omega)))
  by_cases hk : k.val < 128
  · have h2 : (1 ≤ i.val ∧ i.val - 1 < 16) ∧ k.val < 128 := ⟨by omega, hk⟩
    simp only [dif_pos hk, dif_pos h2]
    exact e _ _ _
  · simp only [dif_neg hk]
    exact e _ _ _

theorem sc_ln2 : val_main_v0 (F := Ideal) ix0 = ln2 := by
  pointwise [val_main_v0, val_main_cst]
  refine congrArg Ideal.log ?_
  simp only [Ideal.ofBits, Ideal.ieee]
  have e : ((8388608 : ℝ) : EReal) * ((((2 : ℝ) ^ 22)⁻¹ : ℝ) : EReal) = 2 := by
    rw [← EReal.coe_mul, show (8388608 : ℝ) * ((2 : ℝ) ^ 22)⁻¹ = 2 by norm_num]
    rfl
  simpa using e

set_option maxRecDepth 16384 in
theorem v14_apply (hs : 0 < i.val ∨ 128 ≤ k.val) :
    val_main_v14 (F := Ideal) x0 (ix6 b i h k r g)
      = ∑ d : Fin 64, x0 (ix3 b ⟨i.val * 128 + r.val, by omega⟩ ⟨3072 + (g.val * 128 + h.val * 64 + d.val), by omega⟩)
      * row x0 b i k ⟨h.val * 64 + d.val, by omega⟩ := by
  rw [val_main_v14_apply]
  refine Finset.sum_congr rfl fun d _ => ?_
  have e1 : lidx_main_v14 (ix6 b i h k r g) d = ix5 b i k h d := by funext a; match a with | 0 | 1 | 2 | 3 | 4 => rfl
  have e2 : ridx_main_v14 (ix6 b i h k r g) d = ix6 b i r g h d := by funext a; match a with | 0 | 1 | 2 | 3 | 4 | 5 => rfl
  rw [e1, e2, v10_apply x0 b i k h d hs, v3_apply, mul_comm]

set_option maxRecDepth 16384 in
theorem v18_apply (hs : 0 < i.val ∨ 128 ≤ k.val) :
    val_main_v18 (F := Ideal) x0 (ix6 b i h g r k)
      = (∑ d : Fin 64, x0 (ix3 b ⟨i.val * 128 + r.val, by omega⟩ ⟨3072 + (g.val * 128 + h.val * 64 + d.val), by omega⟩)
      * row x0 b i k ⟨h.val * 64 + d.val, by omega⟩) * ln2 := by
  pointwise [val_main_v18, val_main_v17, val_main_v16, val_main_v15]
  rw [v14_apply x0 b i r k g h hs]
  exact congrArg _ sc_ln2

set_option maxRecDepth 16384 in
theorem v46_apply :
    val_main_v46 (F := Ideal) (ix3 i r k) = if Seen r k (page i) then 1#1 else 0#1 := by
  pointwise [val_main_v46, val_main_v45,  val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_c_1, val_main_c_2, val_main_c_3, val_main_c_4, val_main_c_5]
  rw [band_word, late_word, later_word, or_word, and_word]
  simp only [Seen, page_eq_one]

set_option maxRecDepth 16384 in
theorem v59_apply :
    val_main_v59 (F := Ideal) x2 (ix5 i h g r k) = x2 (ix4 (page i) ⟨h.val * 8 + g.val, by omega⟩ r k) * ln2 := by
  pointwise [val_main_v59, val_main_v58, val_main_v57, val_main_v55, val_main_v54, val_main_v53, val_main_v52, val_main_v51, val_main_v50, val_main_v49, val_main_v48, val_main_v47, val_main_v56, val_main_call2_v0, val_main_call2_v1, val_main_call2_v2, val_main_c_6]
  rw [later_word]
  refine congrArg₂ (· * ·) ?_ sc_ln2
  unfold page
  by_cases hi : 0 < i.val
  · simp only [if_pos hi]; rfl
  · simp only [if_neg hi]; rfl

set_option maxRecDepth 16384 in
theorem v64_apply (hb : ¬ Seen r k (page i) → x2 (ix4 (page i) ⟨h.val * 8 + g.val, by omega⟩ r k) = ⊥) :
    val_main_v64 (F := Ideal) x0 x2 (ix6 b i h g r k) = logits x0 x2 b i r k g h * ln2 := by
  pointwise [val_main_v64, val_main_v63, val_main_v62, val_main_v61, val_main_v60, val_main_call3_v0, val_main_call3_v1, val_main_call3_v2, val_main_cst_7]
  rw [v46_apply]
  unfold logits
  by_cases hs : Seen r k (page i)
  · rw [if_pos hs, v59_apply, v18_apply x0 b i r k g h (by rcases hs.2 with e | e; exacts [.inl ((page_eq_one i).1 e), .inr e]), add_ln2]
    rfl
  · rw [if_neg hs, hb hs, EReal.add_bot, bot_ln2]
    exact low_eq

set_option maxRecDepth 16384 in
theorem v70_apply :
    val_main_v70 (F := Ideal) x0 x2 (ix5 b i h g r)
      = Finset.univ.fold max low (fun k => val_main_v64 (F := Ideal) x0 x2 (ix6 b i h g r k)) := by
  unfold val_main_v70
  generalize val_main_v64 (F := Ideal) x0 x2 = y
  have hr : S16x16x2x8x128x256.Reduces [5] S16x16x2x8x128 := by decide
  refine (Host.reduce_eq_fold_single (max : EReal → EReal → EReal) y (val_main_cst_8 (F := Ideal)) Gen.reducesTo_S16x16x2x8x128x256_S16x16x2x8x128_d5 hr Gen.h_S_ _).trans ?_
  have e : ∀ k : Fin 256, hr.lift (ix5 b i h g r) k = ix6 b i h g r k := by
    intro k; funext a; match a with | 0 | 1 | 2 | 3 | 4 | 5 => rfl
  refine congrArg (fun f => Finset.fold max low f Finset.univ) (funext fun k => ?_)
  exact congrArg y (e k)

set_option maxRecDepth 16384 in
theorem v71_apply : val_main_v71 (F := Ideal) x0 x2 (ix6 b i h g r 0) = val_main_v70 (F := Ideal) x0 x2 (ix5 b i h g r) := by
  pointwise [val_main_v71]

set_option maxRecDepth 16384 in
theorem v73_apply : val_main_v73 (F := Ideal) x1 (ix6 b i h g r 0) = x1 (ix1 ⟨h.val * 8 + g.val, by omega⟩) * ln2 := by
  pointwise [val_main_v73, val_main_v72, val_main_v69, val_main_v68, val_main_v67, val_main_v66, val_main_v65]
  exact congrArg _ sc_ln2

set_option maxRecDepth 16384 in
theorem v74_apply :
    val_main_v74 (F := Ideal) x0 x1 x2 (ix6 b i h g r 0)
      = max (Finset.univ.fold max low (fun k => val_main_v64 (F := Ideal) x0 x2 (ix6 b i h g r k))) (x1 (ix1 ⟨h.val * 8 + g.val, by omega⟩) * ln2) := by
  rw [val_main_v74_apply, v71_apply, v73_apply, v70_apply]
  rfl

set_option maxRecDepth 16384 in
theorem v77_apply :
    val_main_v77 (F := Ideal) x0 x1 x2 (ix6 b i h g r k)
      = Ideal.exp (val_main_v64 (F := Ideal) x0 x2 (ix6 b i h g r k) - val_main_v74 (F := Ideal) x0 x1 x2 (ix6 b i h g r 0)) := by
  pointwise [val_main_v77, val_main_v76, val_main_v75]

set_option maxRecDepth 16384 in
theorem v78_apply :
    val_main_v78 (F := Ideal) x0 x1 x2 (ix5 b i h g r) = ∑ k, val_main_v77 (F := Ideal) x0 x1 x2 (ix6 b i h g r k) := by
  rw [val_main_v78_apply]
  have e : ∀ k, idx_main_v78 (ix5 b i h g r) k = ix6 b i h g r k := by
    intro k; funext a; match a with | 0 | 1 | 2 | 3 | 4 | 5 => rfl
  have z : val_main_cst_9 (F := Ideal) (Shape.Idx.first Gen.h_S_) = 0 := by
    show Ideal.ofBits FTy.f32 0#32 = 0
    simp [Ideal.ofBits, Ideal.ieee]
  rw [z, zero_add]
  exact Finset.sum_congr rfl fun k _ => congrArg _ (e k)

set_option maxRecDepth 16384 in
theorem v84_apply :
    val_main_v84 (F := Ideal) x0 x1 x2 (ix6 b i h g r 0)
      = ∑ k, val_main_v77 (F := Ideal) x0 x1 x2 (ix6 b i h g r k)
        + Ideal.exp (x1 (ix1 ⟨h.val * 8 + g.val, by omega⟩) * ln2 - val_main_v74 (F := Ideal) x0 x1 x2 (ix6 b i h g r 0)) := by
  pointwise [val_main_v84, val_main_v83, val_main_v82, val_main_v81, val_main_v80, val_main_v79, val_main_v69, val_main_v68, val_main_v67, val_main_v66, val_main_v65]
  rw [v78_apply]
  rw [show id (val_main_v0 (F := Ideal)) ix0 = ln2 from sc_ln2]

set_option maxRecDepth 16384 in
theorem v86_apply :
    val_main_v86 (F := Ideal) x0 x1 x2 (ix6 b i h g r k)
      = Ideal.div (val_main_v77 (F := Ideal) x0 x1 x2 (ix6 b i h g r k)) (val_main_v84 (F := Ideal) x0 x1 x2 (ix6 b i h g r 0)) := by
  pointwise [val_main_v86, val_main_v85]

-- The reference's probabilities.
theorem probs (H : Tame x0 x1 x2) :
    val_main_v86 (F := Ideal) x0 x1 x2 (ix6 b i h g r k)
      = Ideal.div (weight (fun k => logits x0 x2 b i r k g h) (x1 (ix1 ⟨h.val * 8 + g.val, by omega⟩)) k)
          (total (fun k => logits x0 x2 b i r k g h) (x1 (ix1 ⟨h.val * 8 + g.val, by omega⟩))) := by
  rw [v86_apply, v84_apply]
  simp only [v77_apply, v74_apply]
  simp only [v64_apply x0 x2 b i r _ g h (fun hs => H.hidden _ _ _ _ hs)]
  rw [norm_ln2]
  exact congrArg (Ideal.div · _) (weight_ln2 (fun k => logits x0 x2 b i r k g h) _ k)

-- The reference's result at a query of a block and a column of a head.
theorem v87_apply (H : Tame x0 x1 x2) :
    val_main_v87 (F := Ideal) x0 x1 x2 (ix6 b i h d g r)
      = attend (fun k => logits x0 x2 b i r k g h) (x1 (ix1 ⟨h.val * 8 + g.val, by omega⟩))
          (fun k => row x0 b i k ⟨128 + (h.val * 64 + d.val), by omega⟩) := by
  rw [val_main_v87_apply]
  have e1 : ∀ k, lidx_main_v87 (ix6 b i h d g r) k = ix5 b i k h d := by
    intro k; funext a; match a with | 0 | 1 | 2 | 3 | 4 => rfl
  have e2 : ∀ k, ridx_main_v87 (ix6 b i h d g r) k = ix6 b i h g r k := by
    intro k; funext a; match a with | 0 | 1 | 2 | 3 | 4 | 5 => rfl
  simp only [e1, e2, probs x0 x1 x2 b i r _ g h H]
  refine attend_congr (v := fun k => val_main_v13 (F := Ideal) x0 (ix5 b i k h d)) (fun k => ?_) (fun k => H.logit _ _ _ _ _ _) (H.sink _).1 (H.sink _).2
  by_cases hs : Seen r k (page i)
  · exact .inr (v13_apply x0 b i k h d (by rcases hs.2 with e | e; exacts [.inl ((page_eq_one i).1 e), .inr e]))
  · left
    show logits x0 x2 b i r k g h = ⊥
    unfold logits
    rw [H.hidden _ _ _ _ hs, EReal.add_bot]

set_option maxRecDepth 16384 in
theorem v90_apply (s : Fin 2048) (n : Fin 1024) :
    val_main_v90 (F := Ideal) x0 x1 x2 (ix3 b s n)
      = val_main_v87 x0 x1 x2 (ix6 b ⟨s.val / 128, by omega⟩ ⟨n.val / 64 % 2, by omega⟩ ⟨n.val % 64, by omega⟩ ⟨n.val / 128, by omega⟩ ⟨s.val % 128, by omega⟩) := by
  pointwise [val_main_v90, val_main_v89, val_main_v88]

end Cert.Proof.SwaRef

end
-- ==== Proof.SwaPre.lean ====
/- What the sliding-window attention's precondition says of its arguments. -/
module

public import proofs.«01_k».proof.Defs
public import proofs.«01_k».proof.Pre_finite_banded
public import proofs.«01_k».proof.Proof.SwaRef
public import Idealize.ShloMosaic.Lib.Pointwise

@[expose] public section

noncomputable section

namespace Cert.Proof.SwaPre

open Cert.Pre_finite_banded Idealize.ShloMosaic
open Cert.Proof.Swa
open Cert.Proof.SwaRef (logits row page Seen Tame)

theorem top_eq : Ideal.ofBits .f32 0x7F800000#32 = (⊤ : EReal) := by unfold Ideal.ofBits; simp [Ideal.ieee]

theorem of_word {p : Prop} [Decidable p] (h : BitVec.ofBool (decide p) = 1#1) : p := by
  by_contra hp
  rw [decide_eq_false hp] at h
  exact absurd h (by decide)

theorem lt_of_word {x y : EReal} (h : Ideal.cmp .olt x y = 1#1) : x < y := of_word h

theorem real_of_word {x : EReal} (h : Ideal.cmp .olt (max x (-x)) (Ideal.ofBits .f32 0x7F800000#32) = 1#1) : x ≠ ⊤ ∧ x ≠ ⊥ := by
  have h := lt_of_word h
  rw [top_eq, max_lt_iff] at h
  refine ⟨h.1.ne, ?_⟩
  rintro rfl
  exact absurd h.2 (by simp)

theorem mul_real {x y : EReal} (hx : x ≠ ⊤ ∧ x ≠ ⊥) (hy : y ≠ ⊤ ∧ y ≠ ⊥) : x * y ≠ ⊤ := by
  lift x to ℝ using hx
  lift y to ℝ using hy
  rw [← EReal.coe_mul]
  exact EReal.coe_ne_top _

theorem sum_ne_top {ι : Type} (s : Finset ι) (f : ι → EReal) (h : ∀ k, f k ≠ ⊤) : ∑ k ∈ s, f k ≠ ⊤ := by
  classical
  induction s using Finset.induction_on with
  | empty => simp
  | insert a s ha ih => rw [Finset.sum_insert ha]; exact EReal.add_ne_top (h a) ih

variable [Facts] (x0 : Vec Ideal S16x2048x4352 .bf16) (x1 : Vec Ideal S16 .f32) (x2 : Vec Ideal S2x16x128x256 .f32)

set_option maxRecDepth 16384 in
theorem fn_rows (b : Fin 16) (s : Fin 2048) (n : Fin 1152) :
    (fn (F := Ideal) x0 x1 x2).1 (ix3 b s n)
      = Ideal.cmp .olt (max (x0 (ix3 b s ⟨3072 + n.val, by omega⟩)) (-x0 (ix3 b s ⟨3072 + n.val, by omega⟩))) (Ideal.ofBits .f32 0x7F800000#32) := by
  pointwise [fn, fn_part1]
  rfl

set_option maxRecDepth 16384 in
theorem fn_sinks (n : Fin 16) :
    (fn (F := Ideal) x0 x1 x2).2.1 (ix1 n)
      = Ideal.cmp .olt (max (x1 (ix1 n)) (-x1 (ix1 n))) (Ideal.ofBits .f32 0x7F800000#32) := by
  pointwise [fn, fn_part1]
  rfl

set_option maxRecDepth 16384 in
theorem fn_bias (p : Fin 2) (n : Fin 16) (r : Fin 128) (k : Fin 256) :
    (fn (F := Ideal) x0 x1 x2).2.2.1 (ix4 p n r k)
      = Ideal.cmp .olt (x2 (ix4 p n r k)) (Ideal.ofBits .f32 0x7F800000#32) := by
  pointwise [fn, fn_part1]

set_option maxRecDepth 16384 in
theorem fn_hidden (p : Fin 2) (n : Fin 16) (r : Fin 128) (k : Fin 256) :
    (fn (F := Ideal) x0 x1 x2).2.2.2 (ix4 p n r k)
      = IntOp.ori (if Seen r k p then 1#1 else 0#1) (Ideal.cmp .oeq (x2 (ix4 p n r k)) low) := by
  pointwise [fn, fn_part1]
  rw [band_word, late_word]
  refine congrArg (IntOp.ori · _) ?_
  split
  · next hp =>
    rw [and_word]
    have e : p = 0 := Fin.ext (by show p.val = 0; omega)
    subst e
    exact if_congr ⟨fun h => ⟨h.1, .inr h.2⟩, fun h => ⟨h.1, h.2.resolve_left (by decide)⟩⟩ rfl rfl
  · next hp =>
    have e : p = 1 := Fin.ext (by show p.val = 1; omega)
    subst e
    exact if_congr ⟨fun h => ⟨h, .inl rfl⟩, fun h => h.1⟩ rfl rfl

/-- Finite queries, keys and sinks, biases that are not +∞, and −∞ where the pair is hidden: what the proof asks. -/
theorem tame (h0 : (fn (F := Ideal) x0 x1 x2).1 = fun _ => 1#1) (h1 : (fn (F := Ideal) x0 x1 x2).2.1 = fun _ => 1#1)
    (h2 : (fn (F := Ideal) x0 x1 x2).2.2.1 = fun _ => 1#1) (h3 : (fn (F := Ideal) x0 x1 x2).2.2.2 = fun _ => 1#1) : Tame x0 x1 x2 := by
  have hr : ∀ (b : Fin 16) (s : Fin 2048) (n : Fin 1152),
      x0 (ix3 b s ⟨3072 + n.val, by omega⟩) ≠ ⊤ ∧ x0 (ix3 b s ⟨3072 + n.val, by omega⟩) ≠ ⊥ := fun b s n =>
    real_of_word ((fn_rows x0 x1 x2 b s n).symm.trans (congrFun h0 _))
  refine ⟨fun p n r k hs => ?_, fun b i r k g h => ?_, fun n => real_of_word ((fn_sinks x0 x1 x2 n).symm.trans (congrFun h1 _))⟩
  · have e := (fn_hidden x0 x1 x2 p n r k).symm.trans (congrFun h3 _)
    rw [if_neg hs] at e
    have e' : Ideal.cmp .oeq (x2 (ix4 p n r k)) low = 1#1 := by
      generalize Ideal.cmp .oeq (x2 (ix4 p n r k)) low = w at e ⊢
      revert w
      decide
    exact (of_word e').trans low_eq
  · unfold logits
    refine EReal.add_ne_top (sum_ne_top _ _ fun d => mul_real (hr b _ ⟨g.val * 128 + h.val * 64 + d.val, by omega⟩) ?_) ?_
    · have key : ∀ s : Fin 2048, x0 (ix3 b s ⟨4096 + (h.val * 64 + d.val), by omega⟩) ≠ ⊤ ∧ x0 (ix3 b s ⟨4096 + (h.val * 64 + d.val), by omega⟩) ≠ ⊥ := fun s => by
        have e : (⟨3072 + (1024 + (h.val * 64 + d.val)), by omega⟩ : Fin 4352) = ⟨4096 + (h.val * 64 + d.val), by omega⟩ := Fin.ext (by show _ + _ = _ + _; omega)
        exact e ▸ hr b s ⟨1024 + (h.val * 64 + d.val), by omega⟩
      unfold row
      split
      · exact key _
      · exact key _
    · exact (lt_of_word ((fn_bias x0 x1 x2 _ _ _ _).symm.trans (congrFun h2 _))).ne_top

end Cert.Proof.SwaPre

end
-- ==== Proof.Swa.lean ====
/- The sliding-window attention: the blocks the kernel writes are the plain attention's. -/
module

public import proofs.«01_k».proof.Defs
public import proofs.«01_k».proof.Proof.Gen.SwaIdeal.Value
public import proofs.«01_k».proof.Proof.SwaPiece
public import proofs.«01_k».proof.Proof.Gen.SwaRefIdeal.Run
public import proofs.«01_k».proof.Proof.Gen.SwaRefIdeal.Read
public import proofs.«01_k».proof.Proof.Gen.Pre_finite_banded
public import proofs.«01_k».proof.Proof.SwaRef
public import proofs.«01_k».proof.Proof.SwaPre
public import Idealize.ShloMosaic.Lib.Pointwise
public import Idealize.ShloMosaic.Lib.Pipeline.ValueKit

@[expose] public section

noncomputable section

namespace Cert.Proof.Swa

open Cert.SwaIdeal Cert.SwaIdeal.Gen Cert.SwaIdeal.Value Idealize.ShloMosaic Idealize.ShloMosaic.TcCoe Idealize.SL.Sem
open Cert.Proof.SwaRef (logits row page Seen Tame)

section Block

variable (x0 : Vec Ideal S16x2048x4352 .bf16) (x1 : Vec Ideal S16 .f32) (x2 : Vec Ideal S2x16x128x256 .f32)
variable (b i : Fin 16)

/-- What the plain attention has at a query of block `i` of sequence `b` and a column. -/
def want (y : S1x128x1024.Idx) : EReal :=
  attend (fun k => logits x0 x2 b i ⟨(y 1).val, (y 1).isLt⟩ k ⟨(y 2).val / 128, by have : (y 2).val < 1024 := (y 2).isLt; omega⟩ ⟨(y 2).val / 64 % 2, by omega⟩)
    (x1 (ix1 ⟨(y 2).val / 64 % 2 * 8 + (y 2).val / 128, by have : (y 2).val < 1024 := (y 2).isLt; omega⟩))
    (fun k => row x0 b i k ⟨128 + ((y 2).val / 64 % 2 * 64 + (y 2).val % 64), by omega⟩)

/-- Pair `p` of heads of a block, whose loads are the arrays' entries. -/
theorem piece_at (H : Tame x0 x1 x2) (P C : Vec Ideal S1x128x256 .bf16) (Q : Vec Ideal S1x128x128 .bf16)
    (B0 B1 : Vec Ideal S1x1x128x256 .f32) (S0 S1 : EReal) (p : Fin 8)
    (hkv : ∀ k c, kv P C k c = row x0 b i k c)
    (hq : ∀ r c : Fin 128, Q (ix3 0 r c) = x0 (ix3 b ⟨i.val * 128 + r.val, by omega⟩ ⟨3072 + (p.val * 128 + c.val), by omega⟩))
    (h0 : ∀ r k, B0 (ix4 0 0 r k) = x2 (ix4 (page i) ⟨p.val, by omega⟩ r k))
    (h1 : ∀ r k, B1 (ix4 0 0 r k) = x2 (ix4 (page i) ⟨8 + p.val, by omega⟩ r k))
    (s0 : S0 = x1 (ix1 ⟨p.val, by omega⟩)) (s1 : S1 = x1 (ix1 ⟨8 + p.val, by omega⟩)) (r l : Fin 128) :
    piece P C Q B0 B1 S0 S1 (ix3 0 r l) = want x0 x1 x2 b i (ix3 0 r ⟨p.val * 128 + l.val, by omega⟩) := by
  obtain ⟨h, d, rfl⟩ : ∃ (h : Fin 2) (d : Fin 64), l = col h d :=
    ⟨⟨l.val / 64, by omega⟩, ⟨l.val % 64, by omega⟩, Fin.ext (by show l.val = l.val / 64 * 64 + l.val % 64; omega)⟩
  have eL : ∀ k, logit P C Q (if h = 0 then B0 else B1) h r k = logits x0 x2 b i r k p h := by
    intro k
    unfold logit logits
    refine congrArg₂ (· + ·) (Finset.sum_congr rfl fun d _ => ?_) ?_
    · rw [hq, hkv]
      refine congrArg (x0 · * _) (congrArg (ix3 b _) (Fin.ext ?_))
      show 3072 + (p.val * 128 + (h.val * 64 + d.val)) = 3072 + (p.val * 128 + h.val * 64 + d.val)
      omega
    · match h with
      | 0 => exact (h0 r k).trans (congrArg x2 (congrArg (ix4 (page i) · r k) (Fin.ext (show p.val = 0 * 8 + p.val by omega))))
      | 1 => exact (h1 r k).trans (congrArg x2 (congrArg (ix4 (page i) · r k) (Fin.ext (show 8 + p.val = 1 * 8 + p.val by omega))))
  have eS : (if h = 0 then S0 else S1) = x1 (ix1 ⟨h.val * 8 + p.val, by omega⟩) := by
    match h with
    | 0 => exact s0.trans (congrArg x1 (congrArg ix1 (Fin.ext (show p.val = 0 * 8 + p.val by omega))))
    | 1 => exact s1.trans (congrArg x1 (congrArg ix1 (Fin.ext (show 8 + p.val = 1 * 8 + p.val by omega))))
  rw [piece_apply P C Q B0 B1 S0 S1 r h d (fun k => by rw [eL]; exact H.logit _ _ _ _ _ _) (by rw [eS]; exact (H.sink _).1) (by rw [eS]; exact (H.sink _).2)]
  have hg : (p.val * 128 + (h.val * 64 + d.val)) / 128 = p.val := by omega
  have hh : (p.val * 128 + (h.val * 64 + d.val)) / 64 % 2 = h.val := by omega
  have hd : (p.val * 128 + (h.val * 64 + d.val)) % 64 = d.val := by omega
  unfold want
  refine congr (congrArg₂ attend (funext fun k => (eL k).trans ?_) (eS.trans ?_)) (funext fun k => (hkv k _).trans ?_)
  · exact congrArg₂ (logits x0 x2 b i r k) (Fin.ext hg.symm) (Fin.ext hh.symm)
  · exact congrArg x1 (congrArg ix1 (Fin.ext (by show _ = _ / 64 % 2 * 8 + _ / 128; dsimp only [ix3]; omega)))
  · exact congrArg (row x0 b i k) (Fin.ext (by show 128 + _ = 128 + (_ / 64 % 2 * 64 + _ % 64); dsimp only [ix3]; omega))

end Block

/-- An index of a one-row array by its other two coordinates. -/
theorem row_idx {p q : Nat} (z : (⟨3, ![1, p, q]⟩ : Shape).Idx) : ∃ (r : Fin p) (n : Fin q), z = ix3 0 r n :=
  ⟨z 1, z 2, (eq_ix3 z).trans (congrArg (fun o : Fin 1 => ix3 o (z 1) (z 2)) (Subsingleton.elim (α := Fin 1) _ _))⟩

theorem one_pos : 0 < (⟨1, ![1]⟩ : Shape).numel := by decide

variable (m : (ℓ : Loc nD τ sig) → Buf (Elt Ideal) ℓ)

set_option maxRecDepth 16384 in
set_option maxHeartbeats 4000000 in
/-- The result array after the run. -/
theorem final (c : Dev nD)
    (H : Tame (m ((c : Thread nD τ).loc main_arg0)) (m ((c : Thread nD τ).loc main_arg1)) (m ((c : Thread nD τ).loc main_arg2))) :
    (dats m 0 c).arrAt 5 cfg0.N
      = Cert.SwaRefIdeal.Read.val_main_v90 (F := Ideal) (m ((c : Thread nD τ).loc main_arg0))
          (m ((c : Thread nD τ).loc main_arg1)) (m ((c : Thread nD τ).loc main_arg2)) := by
  have e1 : ∀ t : Fin cfg0.N, win0_1.index t = ![t.val / 16, t.val % 16, 3] := (by decide +kernel : ∀ t : Fin grid0.N, _)
  have e2 : ∀ t : Fin cfg0.N, win0_2.index t = ![t.val / 16, t.val % 16, 16] := (by decide +kernel : ∀ t : Fin grid0.N, _)
  have e3 : ∀ t : Fin cfg0.N, win0_3.index t = ![t.val / 16, t.val % 16 - 1, 16] := (by decide +kernel : ∀ t : Fin grid0.N, _)
  have e4 : ∀ t : Fin cfg0.N, win0_4.index t = ![if 0 < t.val % 16 then 1 else 0, 0, 0, 0] := (by decide +kernel : ∀ t : Fin grid0.N, _)
  have e0 : ∀ t : Fin cfg0.N, win0_0.index t = ![0] := (by decide +kernel : ∀ t : Fin grid0.N, _)
  have e5 : ∀ t : Fin cfg0.N, win0_5.index t = ![t.val / 16, t.val % 16, 0] := (by decide +kernel : ∀ t : Fin grid0.N, _)
  refine (dats m 0 c).arrAt_eq_of_covers 5 _ (by decide +kernel) fun t hf y => ?_
  have ht : t.val < 256 := t.isLt
  obtain ⟨b, hb⟩ : ∃ b : Fin 16, b.val = t.val / 16 := ⟨⟨t.val / 16, by omega⟩, rfl⟩
  obtain ⟨i, hi⟩ : ∃ i : Fin 16, i.val = t.val % 16 := ⟨⟨t.val % 16, by omega⟩, rfl⟩
  have q1 : ∀ (r : Fin 128) (n : Fin 1024), (X0_1 m c t : Vec Ideal S1x128x1024 .bf16) (ix3 0 r n)
      = (m ((c : Thread nD τ).loc main_arg0) : Vec Ideal S16x2048x4352 .bf16) (ix3 b ⟨i.val * 128 + r.val, by omega⟩ ⟨3072 + n.val, by omega⟩) := fun r n => by
    unfold X0_1 Pipeline.Window.fill
    rw [dif_pos (moved0_1 t _)]
    blk_simp [iblk]
    rw [V_main_arg0]
    exact congrArg _ (by blk_ext [e1, hb, hi])
  have q2 : ∀ (r : Fin 128) (n : Fin 256), (iblk m c 2 t : Vec Ideal S1x128x256 .bf16) (ix3 0 r n)
      = (m ((c : Thread nD τ).loc main_arg0) : Vec Ideal S16x2048x4352 .bf16) (ix3 b ⟨i.val * 128 + r.val, by omega⟩ ⟨4096 + n.val, by omega⟩) := fun r n => by
    blk_simp [iblk]
    rw [V_main_arg0]
    exact congrArg _ (by blk_ext [e2, hb, hi])
  have q3 : ∀ (r : Fin 128) (n : Fin 256), (iblk m c 3 t : Vec Ideal S1x128x256 .bf16) (ix3 0 r n)
      = (m ((c : Thread nD τ).loc main_arg0) : Vec Ideal S16x2048x4352 .bf16) (ix3 b ⟨(i.val - 1) * 128 + r.val, by omega⟩ ⟨4096 + n.val, by omega⟩) := fun r n => by
    blk_simp [iblk]
    rw [V_main_arg0]
    exact congrArg _ (by blk_ext [e3, hb, hi])
  have q4 : ∀ (n : Fin 16) (r : Fin 128) (k : Fin 256), (iblk m c 4 t : Vec Ideal S1x16x128x256 .f32) (ix4 0 n r k)
      = (m ((c : Thread nD τ).loc main_arg2) : Vec Ideal S2x16x128x256 .f32) (ix4 (page i) n r k) := fun n r k => by
    blk_simp [iblk]
    rw [V_main_arg2]
    have hp : (page i).val = if 0 < t.val % 16 then 1 else 0 := by rw [← hi]; unfold page; split <;> rfl
    exact congrArg _ (by blk_ext [e4, hp, hb, hi])
  have q0 : ∀ (n : Fin 16), (iblk m c 0 t : Vec Ideal S16 .f32) (ix1 n)
      = (m ((c : Thread nD τ).loc main_arg1) : Vec Ideal S16 .f32) (ix1 n) := fun n => by
    blk_simp [iblk]
    rw [V_main_arg1]
    exact congrArg _ (by blk_ext [e0])
  have hkv : ∀ k n, kv (iblk m c 3 t) (iblk m c 2 t) k n = row (m ((c : Thread nD τ).loc main_arg0)) b i k n := fun k n => by
    unfold kv row
    split
    · exact q3 _ _
    · exact q2 _ _
  blk_simp
  rw [after0_5]
  rw [outsAt0]
  frame_out
  change View.canon (Val := Elt Ideal) (s := S1x128x1024) (e := .bf16) [
    ⟨Rect.unit ![0, 0, 896] ![1, 128, 128] inb_S1x128x1024_S1x128x128_0_0_896,
      piece (iblk m c 3 t) (iblk m c 2 t)
        (View.ld (X0_1 m c t) (Rect.unit ![0, 0, 896] ![1, 128, 128] inb_S1x128x1024_S1x128x128_0_0_896))
        (View.ld (iblk m c 4 t) (Rect.unit ![0, 7, 0, 0] ![1, 1, 128, 256] inb_S1x16x128x256_S1x1x128x256_0_7_0_0))
        (View.ld (iblk m c 4 t) (Rect.unit ![0, 15, 0, 0] ![1, 1, 128, 256] inb_S1x16x128x256_S1x1x128x256_0_15_0_0))
        (View.ld (iblk m c 0 t) (Rect.unit ![7] ![1] inb_S16_S1_7) (Shape.Idx.first one_pos))
        (View.ld (iblk m c 0 t) (Rect.unit ![15] ![1] inb_S16_S1_15) (Shape.Idx.first one_pos))⟩,
    ⟨Rect.unit ![0, 0, 768] ![1, 128, 128] inb_S1x128x1024_S1x128x128_0_0_768,
      piece (iblk m c 3 t) (iblk m c 2 t)
        (View.ld (X0_1 m c t) (Rect.unit ![0, 0, 768] ![1, 128, 128] inb_S1x128x1024_S1x128x128_0_0_768))
        (View.ld (iblk m c 4 t) (Rect.unit ![0, 6, 0, 0] ![1, 1, 128, 256] inb_S1x16x128x256_S1x1x128x256_0_6_0_0))
        (View.ld (iblk m c 4 t) (Rect.unit ![0, 14, 0, 0] ![1, 1, 128, 256] inb_S1x16x128x256_S1x1x128x256_0_14_0_0))
        (View.ld (iblk m c 0 t) (Rect.unit ![6] ![1] inb_S16_S1_6) (Shape.Idx.first one_pos))
        (View.ld (iblk m c 0 t) (Rect.unit ![14] ![1] inb_S16_S1_14) (Shape.Idx.first one_pos))⟩,
    ⟨Rect.unit ![0, 0, 640] ![1, 128, 128] inb_S1x128x1024_S1x128x128_0_0_640,
      piece (iblk m c 3 t) (iblk m c 2 t)
        (View.ld (X0_1 m c t) (Rect.unit ![0, 0, 640] ![1, 128, 128] inb_S1x128x1024_S1x128x128_0_0_640))
        (View.ld (iblk m c 4 t) (Rect.unit ![0, 5, 0, 0] ![1, 1, 128, 256] inb_S1x16x128x256_S1x1x128x256_0_5_0_0))
        (View.ld (iblk m c 4 t) (Rect.unit ![0, 13, 0, 0] ![1, 1, 128, 256] inb_S1x16x128x256_S1x1x128x256_0_13_0_0))
        (View.ld (iblk m c 0 t) (Rect.unit ![5] ![1] inb_S16_S1_5) (Shape.Idx.first one_pos))
        (View.ld (iblk m c 0 t) (Rect.unit ![13] ![1] inb_S16_S1_13) (Shape.Idx.first one_pos))⟩,
    ⟨Rect.unit ![0, 0, 512] ![1, 128, 128] inb_S1x128x1024_S1x128x128_0_0_512,
      piece (iblk m c 3 t) (iblk m c 2 t)
        (View.ld (X0_1 m c t) (Rect.unit ![0, 0, 512] ![1, 128, 128] inb_S1x128x1024_S1x128x128_0_0_512))
        (View.ld (iblk m c 4 t) (Rect.unit ![0, 4, 0, 0] ![1, 1, 128, 256] inb_S1x16x128x256_S1x1x128x256_0_4_0_0))
        (View.ld (iblk m c 4 t) (Rect.unit ![0, 12, 0, 0] ![1, 1, 128, 256] inb_S1x16x128x256_S1x1x128x256_0_12_0_0))
        (View.ld (iblk m c 0 t) (Rect.unit ![4] ![1] inb_S16_S1_4) (Shape.Idx.first one_pos))
        (View.ld (iblk m c 0 t) (Rect.unit ![12] ![1] inb_S16_S1_12) (Shape.Idx.first one_pos))⟩,
    ⟨Rect.unit ![0, 0, 384] ![1, 128, 128] inb_S1x128x1024_S1x128x128_0_0_384,
      piece (iblk m c 3 t) (iblk m c 2 t)
        (View.ld (X0_1 m c t) (Rect.unit ![0, 0, 384] ![1, 128, 128] inb_S1x128x1024_S1x128x128_0_0_384))
        (View.ld (iblk m c 4 t) (Rect.unit ![0, 3, 0, 0] ![1, 1, 128, 256] inb_S1x16x128x256_S1x1x128x256_0_3_0_0))
        (View.ld (iblk m c 4 t) (Rect.unit ![0, 11, 0, 0] ![1, 1, 128, 256] inb_S1x16x128x256_S1x1x128x256_0_11_0_0))
        (View.ld (iblk m c 0 t) (Rect.unit ![3] ![1] inb_S16_S1_3) (Shape.Idx.first one_pos))
        (View.ld (iblk m c 0 t) (Rect.unit ![11] ![1] inb_S16_S1_11) (Shape.Idx.first one_pos))⟩,
    ⟨Rect.unit ![0, 0, 256] ![1, 128, 128] inb_S1x128x1024_S1x128x128_0_0_256,
      piece (iblk m c 3 t) (iblk m c 2 t)
        (View.ld (X0_1 m c t) (Rect.unit ![0, 0, 256] ![1, 128, 128] inb_S1x128x1024_S1x128x128_0_0_256))
        (View.ld (iblk m c 4 t) (Rect.unit ![0, 2, 0, 0] ![1, 1, 128, 256] inb_S1x16x128x256_S1x1x128x256_0_2_0_0))
        (View.ld (iblk m c 4 t) (Rect.unit ![0, 10, 0, 0] ![1, 1, 128, 256] inb_S1x16x128x256_S1x1x128x256_0_10_0_0))
        (View.ld (iblk m c 0 t) (Rect.unit ![2] ![1] inb_S16_S1_2) (Shape.Idx.first one_pos))
        (View.ld (iblk m c 0 t) (Rect.unit ![10] ![1] inb_S16_S1_10) (Shape.Idx.first one_pos))⟩,
    ⟨Rect.unit ![0, 0, 128] ![1, 128, 128] inb_S1x128x1024_S1x128x128_0_0_128,
      piece (iblk m c 3 t) (iblk m c 2 t)
        (View.ld (X0_1 m c t) (Rect.unit ![0, 0, 128] ![1, 128, 128] inb_S1x128x1024_S1x128x128_0_0_128))
        (View.ld (iblk m c 4 t) (Rect.unit ![0, 1, 0, 0] ![1, 1, 128, 256] inb_S1x16x128x256_S1x1x128x256_0_1_0_0))
        (View.ld (iblk m c 4 t) (Rect.unit ![0, 9, 0, 0] ![1, 1, 128, 256] inb_S1x16x128x256_S1x1x128x256_0_9_0_0))
        (View.ld (iblk m c 0 t) (Rect.unit ![1] ![1] inb_S16_S1_1) (Shape.Idx.first one_pos))
        (View.ld (iblk m c 0 t) (Rect.unit ![9] ![1] inb_S16_S1_9) (Shape.Idx.first one_pos))⟩,
    ⟨Rect.unit ![0, 0, 0] ![1, 128, 128] inb_S1x128x1024_S1x128x128_0_0_0,
      piece (iblk m c 3 t) (iblk m c 2 t)
        (View.ld (X0_1 m c t) (Rect.unit ![0, 0, 0] ![1, 128, 128] inb_S1x128x1024_S1x128x128_0_0_0))
        (View.ld (iblk m c 4 t) (Rect.unit ![0, 0, 0, 0] ![1, 1, 128, 256] inb_S1x16x128x256_S1x1x128x256_0_0_0_0))
        (View.ld (iblk m c 4 t) (Rect.unit ![0, 8, 0, 0] ![1, 1, 128, 256] inb_S1x16x128x256_S1x1x128x256_0_8_0_0))
        (View.ld (iblk m c 0 t) (Rect.unit ![0] ![1] inb_S16_S1_0) (Shape.Idx.first one_pos))
        (View.ld (iblk m c 0 t) (Rect.unit ![8] ![1] inb_S16_S1_8) (Shape.Idx.first one_pos))⟩] y = _
  change S1x128x1024.Idx at y
  have eR : ∀ z : S1x128x1024.Idx, Cert.SwaRefIdeal.Read.val_main_v90 (F := Ideal) (m ((c : Thread nD τ).loc main_arg0))
          (m ((c : Thread nD τ).loc main_arg1)) (m ((c : Thread nD τ).loc main_arg2)) (((View.whole main_v0).slice (win0_5.rect t)).emb z)
      = want (m ((c : Thread nD τ).loc main_arg0)) (m ((c : Thread nD τ).loc main_arg1)) (m ((c : Thread nD τ).loc main_arg2)) b i z := by
    intro z
    obtain ⟨r, n, rfl⟩ : ∃ (r : Fin 128) (n : Fin 1024), z = ix3 0 r n := row_idx z
    have e : ((View.whole main_v0).slice (win0_5.rect t)).emb (ix3 0 r n) = ix3 b (⟨i.val * 128 + r.val, by omega⟩ : Fin 2048) n := by
      blk_ext [e5, hb, hi]
    rw [e, Cert.Proof.SwaRef.v90_apply, Cert.Proof.SwaRef.v87_apply _ _ _ _ _ _ _ _ _ H]
    have hb : (⟨(i.val * 128 + r.val) / 128, by omega⟩ : Fin 16) = i := Fin.ext (by dsimp only; omega)
    have hr : (⟨(i.val * 128 + r.val) % 128, by omega⟩ : Fin 128) = r := Fin.ext (by dsimp only; omega)
    rw [hb, hr]
    rfl
  refine Eq.trans ?_ (eR y).symm
  refine View.canon_apply_of_pieces (Val := Elt Ideal) (e := .bf16)
    (want (m ((c : Thread nD τ).loc main_arg0)) (m ((c : Thread nD τ).loc main_arg1)) (m ((c : Thread nD τ).loc main_arg2)) b i) _ ?_ y ?_
  swap
  · exact View.cover_of_tiled_head _ _ _ (by rfl) y
  simp only [List.mem_cons, List.not_mem_nil, or_false]
  rintro _ (rfl | rfl | rfl | rfl | rfl | rfl | rfl | rfl) x <;> change S1x128x128.Idx at x <;> dsimp only
  · obtain ⟨r, l, rfl⟩ : ∃ r l : Fin 128, x = ix3 0 r l := row_idx x
    refine (piece_at _ _ _ b i H _ _ _ _ _ _ _ 7 hkv (fun r n => (?_ : _ = _).trans (q1 r ⟨7 * 128 + n.val, by omega⟩))
      (fun r k => (?_ : _ = _).trans (q4 7 r k)) (fun r k => (?_ : _ = _).trans (q4 15 r k)) ((?_ : _ = _).trans (q0 7)) ((?_ : _ = _).trans (q0 15)) r l).trans
      (congrArg _ ?_)
    · pointwise
    · pointwise
    · pointwise
    · pointwise
    · pointwise
    · blk_ext
  · obtain ⟨r, l, rfl⟩ : ∃ r l : Fin 128, x = ix3 0 r l := row_idx x
    refine (piece_at _ _ _ b i H _ _ _ _ _ _ _ 6 hkv (fun r n => (?_ : _ = _).trans (q1 r ⟨6 * 128 + n.val, by omega⟩))
      (fun r k => (?_ : _ = _).trans (q4 6 r k)) (fun r k => (?_ : _ = _).trans (q4 14 r k)) ((?_ : _ = _).trans (q0 6)) ((?_ : _ = _).trans (q0 14)) r l).trans
      (congrArg _ ?_)
    · pointwise
    · pointwise
    · pointwise
    · pointwise
    · pointwise
    · blk_ext
  · obtain ⟨r, l, rfl⟩ : ∃ r l : Fin 128, x = ix3 0 r l := row_idx x
    refine (piece_at _ _ _ b i H _ _ _ _ _ _ _ 5 hkv (fun r n => (?_ : _ = _).trans (q1 r ⟨5 * 128 + n.val, by omega⟩))
      (fun r k => (?_ : _ = _).trans (q4 5 r k)) (fun r k => (?_ : _ = _).trans (q4 13 r k)) ((?_ : _ = _).trans (q0 5)) ((?_ : _ = _).trans (q0 13)) r l).trans
      (congrArg _ ?_)
    · pointwise
    · pointwise
    · pointwise
    · pointwise
    · pointwise
    · blk_ext
  · obtain ⟨r, l, rfl⟩ : ∃ r l : Fin 128, x = ix3 0 r l := row_idx x
    refine (piece_at _ _ _ b i H _ _ _ _ _ _ _ 4 hkv (fun r n => (?_ : _ = _).trans (q1 r ⟨4 * 128 + n.val, by omega⟩))
      (fun r k => (?_ : _ = _).trans (q4 4 r k)) (fun r k => (?_ : _ = _).trans (q4 12 r k)) ((?_ : _ = _).trans (q0 4)) ((?_ : _ = _).trans (q0 12)) r l).trans
      (congrArg _ ?_)
    · pointwise
    · pointwise
    · pointwise
    · pointwise
    · pointwise
    · blk_ext
  · obtain ⟨r, l, rfl⟩ : ∃ r l : Fin 128, x = ix3 0 r l := row_idx x
    refine (piece_at _ _ _ b i H _ _ _ _ _ _ _ 3 hkv (fun r n => (?_ : _ = _).trans (q1 r ⟨3 * 128 + n.val, by omega⟩))
      (fun r k => (?_ : _ = _).trans (q4 3 r k)) (fun r k => (?_ : _ = _).trans (q4 11 r k)) ((?_ : _ = _).trans (q0 3)) ((?_ : _ = _).trans (q0 11)) r l).trans
      (congrArg _ ?_)
    · pointwise
    · pointwise
    · pointwise
    · pointwise
    · pointwise
    · blk_ext
  · obtain ⟨r, l, rfl⟩ : ∃ r l : Fin 128, x = ix3 0 r l := row_idx x
    refine (piece_at _ _ _ b i H _ _ _ _ _ _ _ 2 hkv (fun r n => (?_ : _ = _).trans (q1 r ⟨2 * 128 + n.val, by omega⟩))
      (fun r k => (?_ : _ = _).trans (q4 2 r k)) (fun r k => (?_ : _ = _).trans (q4 10 r k)) ((?_ : _ = _).trans (q0 2)) ((?_ : _ = _).trans (q0 10)) r l).trans
      (congrArg _ ?_)
    · pointwise
    · pointwise
    · pointwise
    · pointwise
    · pointwise
    · blk_ext
  · obtain ⟨r, l, rfl⟩ : ∃ r l : Fin 128, x = ix3 0 r l := row_idx x
    refine (piece_at _ _ _ b i H _ _ _ _ _ _ _ 1 hkv (fun r n => (?_ : _ = _).trans (q1 r ⟨1 * 128 + n.val, by omega⟩))
      (fun r k => (?_ : _ = _).trans (q4 1 r k)) (fun r k => (?_ : _ = _).trans (q4 9 r k)) ((?_ : _ = _).trans (q0 1)) ((?_ : _ = _).trans (q0 9)) r l).trans
      (congrArg _ ?_)
    · pointwise
    · pointwise
    · pointwise
    · pointwise
    · pointwise
    · blk_ext
  · obtain ⟨r, l, rfl⟩ : ∃ r l : Fin 128, x = ix3 0 r l := row_idx x
    refine (piece_at _ _ _ b i H _ _ _ _ _ _ _ 0 hkv (fun r n => (?_ : _ = _).trans (q1 r ⟨0 * 128 + n.val, by omega⟩))
      (fun r k => (?_ : _ = _).trans (q4 0 r k)) (fun r k => (?_ : _ = _).trans (q4 8 r k)) ((?_ : _ = _).trans (q0 0)) ((?_ : _ = _).trans (q0 8)) r l).trans
      (congrArg _ ?_)
    · pointwise
    · pointwise
    · pointwise
    · pointwise
    · pointwise
    · blk_ext

theorem algebraic : Cert.algebraic_SwaIdeal_SwaRefIdeal_pre_finite_banded (hSwaIdeal := Cert.SwaIdeal.Gen.facts)
    (hSwaRefIdeal := Cert.SwaRefIdeal.Gen.facts) (hPre_finite_banded := Cert.Pre_finite_banded.Gen.facts) := by
  intro m g m' g' hp h
  refine ⟨fun c => (dats m 0 c).arrAt 5 cfg0.N, run_blocks m g, ?_⟩
  refine (θ_run Cert.SwaRefIdeal.defs _ _).mono (fun r h' c => ⟨?_, (h' c).2⟩) (Cert.SwaRefIdeal.Value.run (F := Ideal) m' g')
  obtain ⟨a0, a1, a2⟩ := h c
  refine (h' c).1.trans ((Cert.SwaRefIdeal.Read.val_main_v90_eq m' c).trans ?_)
  rw [a0, a1, a2]
  exact (final m c (@SwaPre.tame Cert.Pre_finite_banded.Gen.facts _ _ _ (hp c).1 (hp c).2.1 (hp c).2.2.1 (hp c).2.2.2)).symm

end Cert.Proof.Swa

end
-- ==== Proof.BiasBand.lean ====
/- The bucket of a distance, and what the table of buckets the kernel is given should hold. -/
module

public import proofs.«01_k».proof.BiasIdeal
public import proofs.«01_k».proof.Proof.SwaWords

@[expose] public section

noncomputable section

namespace Cert.Proof.Bias

open Idealize.ShloMosaic
open Cert.Proof.Swa

/-- The bucket of a distance. -/
def bucket (d : Nat) : Nat := if d < 16 then d else 16 + (Nat.log2 (d ^ 16) - 64) / 3

/-- The table's entries of eight rows. -/
def RowsOk (b : Fin 16) : Prop := ∀ (s : Fin 8) (k : Fin 256),
  Cert.BiasIdeal.lit0 ⟨(b.val * 8 + s.val) * 256 + k.val, by omega⟩
    = if Band ⟨b.val * 8 + s.val, by omega⟩ k then BitVec.ofNat 32 (bucket (b.val * 8 + s.val + 128 - k.val)) else 4294967295#32

instance (b : Fin 16) : Decidable (RowsOk b) :=
  inferInstanceAs (Decidable (∀ (s : Fin 8) (k : Fin 256), Cert.BiasIdeal.lit0 ⟨(b.val * 8 + s.val) * 256 + k.val, by omega⟩
    = if Band ⟨b.val * 8 + s.val, by omega⟩ k then BitVec.ofNat 32 (bucket (b.val * 8 + s.val + 128 - k.val)) else 4294967295#32))

end Cert.Proof.Bias

end
-- ==== Proof.BiasRows0.lean ====
/- Rows 0 to 31 of the table of buckets. -/
module

public import proofs.«01_k».proof.Proof.BiasBand

@[expose] public section

noncomputable section

namespace Cert.Proof.Bias

theorem rows0 : RowsOk 0 := by decide +kernel

theorem rows1 : RowsOk 1 := by decide +kernel

theorem rows2 : RowsOk 2 := by decide +kernel

theorem rows3 : RowsOk 3 := by decide +kernel

end Cert.Proof.Bias

end
-- ==== Proof.BiasRows1.lean ====
/- Rows 32 to 63 of the table of buckets. -/
module

public import proofs.«01_k».proof.Proof.BiasBand

@[expose] public section

noncomputable section

namespace Cert.Proof.Bias

theorem rows4 : RowsOk 4 := by decide +kernel

theorem rows5 : RowsOk 5 := by decide +kernel

theorem rows6 : RowsOk 6 := by decide +kernel

theorem rows7 : RowsOk 7 := by decide +kernel

end Cert.Proof.Bias

end
-- ==== Proof.BiasRows2.lean ====
/- Rows 64 to 95 of the table of buckets. -/
module

public import proofs.«01_k».proof.Proof.BiasBand

@[expose] public section

noncomputable section

namespace Cert.Proof.Bias

theorem rows8 : RowsOk 8 := by decide +kernel

theorem rows9 : RowsOk 9 := by decide +kernel

theorem rows10 : RowsOk 10 := by decide +kernel

theorem rows11 : RowsOk 11 := by decide +kernel

end Cert.Proof.Bias

end
-- ==== Proof.BiasRows3.lean ====
/- Rows 96 to 127 of the table of buckets. -/
module

public import proofs.«01_k».proof.Proof.BiasBand

@[expose] public section

noncomputable section

namespace Cert.Proof.Bias

theorem rows12 : RowsOk 12 := by decide +kernel

theorem rows13 : RowsOk 13 := by decide +kernel

theorem rows14 : RowsOk 14 := by decide +kernel

theorem rows15 : RowsOk 15 := by decide +kernel

end Cert.Proof.Bias

end
-- ==== Proof.BiasTable.lean ====
/- The table of buckets the kernel is given. -/
module

public import proofs.«01_k».proof.Proof.BiasRows0
public import proofs.«01_k».proof.Proof.BiasRows1
public import proofs.«01_k».proof.Proof.BiasRows2
public import proofs.«01_k».proof.Proof.BiasRows3

@[expose] public section

noncomputable section

namespace Cert.Proof.Bias

open Idealize.ShloMosaic
open Cert.Proof.Swa

theorem rows_ok (b : Fin 16) : RowsOk b := by
  fin_cases b
  exacts [rows0, rows1, rows2, rows3, rows4, rows5, rows6, rows7, rows8, rows9, rows10, rows11, rows12, rows13, rows14, rows15]

/-- The table holds the bucket of a pair's distance in the band and −1 outside it. -/
theorem lit_word (r : Fin 128) (k : Fin 256) :
    Cert.BiasIdeal.lit0 ⟨r.val * 256 + k.val, by omega⟩
      = if Band r k then BitVec.ofNat 32 (bucket (r.val + 128 - k.val)) else 4294967295#32 := by
  have h := rows_ok ⟨r.val / 8, by omega⟩ ⟨r.val % 8, by omega⟩ k
  have e : r.val / 8 * 8 + r.val % 8 = r.val := by omega
  simp only [e] at h
  exact h

end Cert.Proof.Bias

end
-- ==== Proof.BiasEntry.lean ====
/- The bias of a pair, and the kernel's search for it by the pair's bucket. -/
module

public import proofs.«01_k».proof.Proof.BiasTable
public import Idealize.ShloMosaic.Lib.Pointwise

@[expose] public section

noncomputable section

namespace Cert.Proof.Bias

open Idealize.ShloMosaic Idealize.ShloMosaic.TcCoe
open Cert.Proof.Swa (Band)

/-- A pair's bias on a page: its bucket's value times log2 e in the band (on the first page, at its own block's keys only), −∞ elsewhere. -/
def entry (x0 : (⟨2, ![32, 16]⟩ : Shape).Idx → EReal) (p : Fin 2) (n : Fin 16) (r : Fin 128) (k : Fin 256) : EReal :=
  if Band r k ∧ (p = 1 ∨ 128 ≤ k.val) then
    x0 (ix2 ⟨min (bucket (r.val + 128 - k.val)) 31, by omega⟩ n) * Ideal.ofBits FTy.f32 1069066811#32
  else ⊥

/-- The first `n` values looked through for the one at a word: its multiple by log2 e, or `z`. -/
def chain (z : EReal) (w : BitVec 32) (f : Nat → EReal) : Nat → EReal
  | 0 => z
  | n + 1 => Scalar.select (IntOp.cmpi CmpIPredicate.eq w (BitVec.ofNat 32 n)) (f n * Ideal.ofBits FTy.f32 1069066811#32) (chain z w f n)

theorem eq_word (a b : BitVec 32) : IntOp.cmpi CmpIPredicate.eq a b = if a = b then 1#1 else 0#1 := by
  unfold IntOp.cmpi
  by_cases h : a = b
  · rw [if_pos h]; subst h; simp
  · rw [if_neg h]; show BitVec.ofBool (a == b) = 0#1; rw [beq_eq_false_iff_ne.mpr h]; rfl

theorem chain_out (z : EReal) (f : Nat → EReal) (n : Nat) (hn : n ≤ 32) : chain z 4294967295#32 f n = z := by
  induction n with
  | zero => rfl
  | succ n ih =>
    have h : ¬(4294967295#32 = BitVec.ofNat 32 n) := by
      intro h
      have := congrArg BitVec.toNat h
      simp only [BitVec.toNat_ofNat] at this
      omega
    rw [chain, eq_word, if_neg h, ValueIdx.select_zero, ih (by omega)]

theorem chain_at (z : EReal) (f : Nat → EReal) (b n : Nat) (hb : b < n) (hn : n ≤ 32) :
    chain z (BitVec.ofNat 32 b) f n = f b * Ideal.ofBits FTy.f32 1069066811#32 := by
  induction n with
  | zero => omega
  | succ n ih =>
    rw [chain, eq_word]
    by_cases h : b = n
    · subst h
      rw [if_pos rfl, ValueIdx.select_one]
    · have h' : ¬(BitVec.ofNat 32 b = BitVec.ofNat 32 n) := by
        intro h'
        have := congrArg BitVec.toNat h'
        simp only [BitVec.toNat_ofNat] at this
        omega
      rw [if_neg h', ValueIdx.select_zero, ih (by omega) (by omega)]

theorem bucket_lt : ∀ d : Fin 128, bucket d.val < 32 := by decide +kernel

theorem hidden_word : ∀ (p : Fin 2) (k : Fin 256),
    IntOp.andi (Scalar.cmpi CmpIPredicate.eq (BitVec.ofNat 32 p.val) 0#32) (IntOp.cmpi CmpIPredicate.slt (BitVec.ofNat 32 k.val) 128#32)
      = if p = 1 ∨ 128 ≤ k.val then 0#1 else 1#1 := by decide +kernel

theorem head (x0 : (⟨2, ![32, 16]⟩ : Shape).Idx → EReal) (p : Fin 2) (n : Fin 16) (r : Fin 128) (k : Fin 256) :
    Scalar.select (IntOp.andi (Scalar.cmpi CmpIPredicate.eq (BitVec.ofNat 32 p.val) 0#32)
        (IntOp.cmpi CmpIPredicate.slt (BitVec.ofNat 32 k.val) 128#32)) (⊥ : EReal)
      (chain ⊥ (if Band r k then BitVec.ofNat 32 (bucket (r.val + 128 - k.val)) else 4294967295#32)
        (fun b => x0 (ix2 ⟨min b 31, by omega⟩ n)) 32)
      = entry x0 p n r k := by
  unfold entry
  rw [hidden_word]
  by_cases hp : p = 1 ∨ 128 ≤ k.val
  · rw [if_pos hp, ValueIdx.select_zero]
    by_cases hb : Band r k
    · have hd : r.val + 128 - k.val < 128 := by have := hb.2; omega
      rw [if_pos hb, if_pos ⟨hb, hp⟩, chain_at _ _ _ _ (bucket_lt ⟨_, hd⟩) le_rfl]
    · rw [if_neg hb, if_neg (fun h => hb h.1), chain_out _ _ _ le_rfl]
  · rw [if_neg hp, ValueIdx.select_one, if_neg (fun h => hp h.2)]

end Cert.Proof.Bias

end
-- ==== Proof.BiasLog.lean ====
/- The bucket of a distance by its logarithm: sixteen buckets a factor of eight apart beyond the first sixteen distances. -/
module

public import Idealize.ShloMosaic.PureOps.Ideal
public import Mathlib.Analysis.SpecialFunctions.Log.Basic

@[expose] public section

noncomputable section

namespace Cert.Proof.Bias

open Idealize.ShloMosaic

/-- How many sixteenths of a factor of eight a distance is from sixteen. -/
def step (d : Nat) : Nat := (Nat.log2 (d ^ 16) - 64) / 3

/-- The quotient by which the sixteenths are counted, a little above the logarithm of eight. -/
def log8 : ℝ := 8721810 / 4194304

theorem log8_pos : 0 < log8 := by unfold log8; norm_num

theorem log_two_le (a b n : ℕ) (ha : 0 < a) (hb : 0 < b) (h : 2 * b ^ n ≤ a ^ n) : Real.log 2 ≤ n * (Real.log a - Real.log b) := by
  have a0 : (0 : ℝ) < a := by exact_mod_cast ha
  have b0 : (0 : ℝ) < b := by exact_mod_cast hb
  have h : (2 : ℝ) * (b : ℝ) ^ n ≤ (a : ℝ) ^ n := by exact_mod_cast h
  have h := Real.log_le_log (by positivity) h
  rw [Real.log_mul (by norm_num) (by positivity), Real.log_pow, Real.log_pow] at h
  linarith

theorem le_log_two (a b n : ℕ) (ha : 0 < a) (hb : 0 < b) (h : a ^ n ≤ 2 * b ^ n) : n * (Real.log a - Real.log b) ≤ Real.log 2 := by
  have a0 : (0 : ℝ) < a := by exact_mod_cast ha
  have b0 : (0 : ℝ) < b := by exact_mod_cast hb
  have h : (a : ℝ) ^ n ≤ (2 : ℝ) * (b : ℝ) ^ n := by exact_mod_cast h
  have h := Real.log_le_log (by positivity) h
  rw [Real.log_mul (by norm_num) (by positivity), Real.log_pow, Real.log_pow] at h
  linarith

theorem two_le_pow : 2 * 10000 ^ 6932 ≤ 10001 ^ 6932 := by decide +kernel

theorem pow_le_two : 10001 ^ 6931 ≤ 2 * 10000 ^ 6931 := by decide +kernel

theorem log8_ge : 3 * Real.log 2 ≤ log8 + 2 / 10000 := by
  have h := log_two_le 10001 10000 6932 (by norm_num) (by norm_num) two_le_pow
  have : Real.log (10001 : ℕ) - Real.log (10000 : ℕ) ≤ 1 / 10000 := by
    rw [← Real.log_div (by norm_num) (by norm_num)]
    have := Real.log_le_sub_one_of_pos (x := (10001 : ℕ) / (10000 : ℕ)) (by norm_num)
    norm_num at this ⊢
    linarith
  push_cast at h this
  unfold log8; linarith

theorem log8_le : log8 ≤ 3 * Real.log 2 + 4 / 10000 := by
  have h := le_log_two 10001 10000 6931 (by norm_num) (by norm_num) pow_le_two
  have : 1 / 10001 ≤ Real.log (10001 : ℕ) - Real.log (10000 : ℕ) := by
    rw [← Real.log_div (by norm_num) (by norm_num)]
    have := Real.one_sub_inv_le_log_of_pos (x := (10001 : ℕ) / (10000 : ℕ)) (by norm_num)
    norm_num at this ⊢
    linarith
  push_cast at h this
  unfold log8; linarith

theorem log8_eq : Ideal.ofBits FTy.f32 1074075026#32 = ((log8 : ℝ) : EReal) := by
  unfold Ideal.ofBits log8; simp [Ideal.ieee]; norm_num
  rw [← EReal.coe_mul]; norm_num

theorem sixteen_eq : Ideal.ofBits FTy.f32 1098907648#32 = ((16 : ℝ) : EReal) := by
  unfold Ideal.ofBits; simp [Ideal.ieee]; norm_num
  rw [← EReal.coe_mul]; norm_num

theorem step_facts : ∀ d : Fin 128, 16 ≤ d.val →
    d.val ^ 16 * 101 < 2 ^ (64 + 3 * (step d.val + 1)) * 100 ∧ (step d.val = 0 ∨ 101 * 2 ^ (64 + 3 * step d.val) ≤ d.val ^ 16 * 100)
      ∧ step d.val ≤ 15 := by decide +kernel

theorem floor_step (d : Nat) (h : 16 ≤ d) (hd : d < 128) : ⌊Real.log (d * (1 / 16)) * (1 / log8) * 16⌋ = (step d : ℤ) := by
  obtain ⟨h1, h2, h3⟩ := step_facts ⟨d, hd⟩ h
  dsimp only at h1 h2 h3
  have d0 : (0 : ℝ) < d := by exact_mod_cast (by omega : 0 < d)
  have l8 := log8_pos
  have e16 : Real.log 16 = 4 * Real.log 2 := by
    rw [show (16 : ℝ) = 2 ^ 4 by norm_num, Real.log_pow]; norm_num
  have e : 16 * Real.log (d * (1 / 16)) = Real.log ((d : ℝ) ^ 16) - 64 * Real.log 2 := by
    rw [Real.log_mul d0.ne' (by norm_num), one_div, Real.log_inv, e16, Real.log_pow]; push_cast; ring
  have hx : Real.log (d * (1 / 16)) * (1 / log8) * 16 = 16 * Real.log (d * (1 / 16)) / log8 := by ring
  rw [hx, Int.floor_eq_iff]
  have g : 1 / 101 ≤ Real.log 101 - Real.log 100 := by
    rw [← Real.log_div (by norm_num) (by norm_num)]
    have := Real.one_sub_inv_le_log_of_pos (x := 101 / 100) (by norm_num)
    norm_num at this ⊢
    linarith
  have up : Real.log ((d : ℝ) ^ 16) + Real.log 101 < (64 + 3 * ((step d : ℝ) + 1)) * Real.log 2 + Real.log 100 := by
    have : Real.log ((d : ℝ) ^ 16 * 101) < Real.log ((2 : ℝ) ^ (64 + 3 * (step d + 1)) * 100) :=
      Real.log_lt_log (by positivity) (by exact_mod_cast h1)
    rw [Real.log_mul (by positivity) (by norm_num), Real.log_mul (by positivity) (by norm_num), Real.log_pow (2 : ℝ) (64 + 3 * (step d + 1))] at this
    have c : ((64 + 3 * (step d + 1) : ℕ) : ℝ) = 64 + 3 * ((step d : ℝ) + 1) := by push_cast; rfl
    rw [c] at this
    linarith
  constructor
  · rw [le_div_iff₀ l8]
    rcases h2 with h2 | h2
    · rw [h2]
      have : 0 ≤ Real.log (d * (1 / 16)) := Real.log_nonneg (by
        have : (16 : ℝ) ≤ d := by exact_mod_cast h
        linarith)
      push_cast
      linarith
    · have lo : Real.log (101 * (2 : ℝ) ^ (64 + 3 * step d)) ≤ Real.log ((d : ℝ) ^ 16 * 100) :=
        Real.log_le_log (by positivity) (by exact_mod_cast h2)
      rw [Real.log_mul (by norm_num) (by positivity), Real.log_mul (by positivity) (by norm_num), Real.log_pow (2 : ℝ) (64 + 3 * step d)] at lo
      have j : (step d : ℝ) ≤ 15 := by exact_mod_cast h3
      have j0 : (0 : ℝ) ≤ step d := by positivity
      have hl := mul_le_mul_of_nonneg_left log8_le j0
      have c : ((64 + 3 * step d : ℕ) : ℝ) = 64 + 3 * (step d : ℝ) := by push_cast; rfl
      rw [c] at lo
      push_cast
      rw [e]
      nlinarith
  · rw [div_lt_iff₀ l8, e]
    have hl := mul_le_mul_of_nonneg_left log8_ge (by positivity : (0 : ℝ) ≤ (step d : ℝ) + 1)
    have j : (step d : ℝ) ≤ 15 := by exact_mod_cast h3
    push_cast
    linarith

/-- The plain text's count of sixteenths. -/
theorem step_word (d : Nat) (h : 16 ≤ d) (hd : d < 128) :
    (FloatOps.fptosi (F := Ideal) (φ := .f32) 32
      (Ideal.div (Ideal.log (Ideal.div (FloatOps.sitofp (F := Ideal) FTy.f32 (BitVec.ofNat 32 d)) (Ideal.ofBits FTy.f32 1098907648#32)))
        (Ideal.ofBits FTy.f32 1074075026#32) * Ideal.ofBits FTy.f32 1098907648#32)) = BitVec.ofNat 32 (step d) := by
  have ei : (BitVec.ofNat 32 d).toInt = d := by
    exact (by decide +kernel : ∀ d : Fin 128, (BitVec.ofNat 32 d.val).toInt = d.val) ⟨d, hd⟩
  have es : FloatOps.sitofp (F := Ideal) FTy.f32 (BitVec.ofNat 32 d) = ((d : ℝ) : EReal) := by
    show (((BitVec.ofNat 32 d).toInt : ℝ) : EReal) = _
    rw [ei]; norm_cast
  have d16 : (16 : ℝ) ≤ d := by exact_mod_cast h
  have hl : Ideal.log (((d : ℝ) * (1 / 16) : ℝ) : EReal) = ((Real.log (d * (1 / 16)) : ℝ) : EReal) := by
    show (if (d : ℝ) * (1 / 16) ≤ 0 then ⊥ else ((Real.log (d * (1 / 16)) : ℝ) : EReal)) = _
    rw [if_neg (by linarith)]
  have x0 : 0 ≤ Real.log (d * (1 / 16)) * (1 / log8) * 16 := by
    have := Real.log_nonneg (x := d * (1 / 16)) (by linarith)
    have := log8_pos
    positivity
  rw [es, sixteen_eq, log8_eq, Ideal.div_coe (y := 16) (by norm_num), ← EReal.coe_mul, hl, Ideal.div_coe log8_pos.ne', ← EReal.coe_mul, ← EReal.coe_mul]
  show Ideal.fptosi 32 _ = _
  rw [Ideal.fptosi, Ideal.toIntClamped_coe, if_pos x0, floor_step d h hd]
  have h3 := (step_facts ⟨d, hd⟩ h).2.2
  dsimp only at h3
  have : max (-((2 ^ (32 - 1) : Nat) : ℤ)) (min (((2 ^ (32 - 1) : Nat) : ℤ) - 1) (step d : ℤ)) = (step d : ℤ) := by
    norm_num; omega
  rw [this]
  rfl

end Cert.Proof.Bias

end
-- ==== Proof.BiasRef.lean ====
/- The plain bias table, read at an index. -/
module

public import proofs.«01_k».proof.Defs
public import proofs.«01_k».proof.Proof.Gen.BiasRefIdeal.Read
public import proofs.«01_k».proof.Proof.BiasEntry
public import proofs.«01_k».proof.Proof.BiasLog
public import proofs.«01_k».proof.Proof.SwaMath
public import Idealize.ShloMosaic.Lib.Pointwise

@[expose] public section

noncomputable section

namespace Cert.Proof.Bias

open Cert.BiasRefIdeal Cert.BiasRefIdeal.Read Idealize.ShloMosaic Idealize.ShloMosaic.TcCoe Idealize.SL.Sem
open Cert.Proof.Swa (Band band_word late_word and_word low_eq)

/-- The bucket of a distance as the plain text's words compute it, from the count `s` of sixteenths. -/
def bucketWord (d s : BitVec 32) : BitVec 32 :=
  Scalar.select
    (IntOp.cmpi CmpIPredicate.slt
      (Scalar.select (IntOp.cmpi CmpIPredicate.slt (IntOp.maxsi d 0#32) 16#32) (IntOp.maxsi d 0#32) (IntOp.minsi (IntOp.addi (16#32) s) 31#32)) 0#32)
    (IntOp.addi
      (Scalar.select (IntOp.cmpi CmpIPredicate.slt (IntOp.maxsi d 0#32) 16#32) (IntOp.maxsi d 0#32) (IntOp.minsi (IntOp.addi (16#32) s) 31#32)) 32#32)
    (Scalar.select (IntOp.cmpi CmpIPredicate.slt (IntOp.maxsi d 0#32) 16#32) (IntOp.maxsi d 0#32) (IntOp.minsi (IntOp.addi (16#32) s) 31#32))

/-- The count of sixteenths as the plain text computes it. -/
def stepWord (d : BitVec 32) : BitVec 32 :=
  FloatOps.fptosi (F := Ideal) (φ := .f32) 32
    (Ideal.div (Ideal.log (Ideal.div (FloatOps.sitofp (F := Ideal) FTy.f32 (IntOp.maxsi (IntOp.maxsi d 0#32) 16#32)) (Ideal.ofBits FTy.f32 1098907648#32)))
      (Ideal.ofBits FTy.f32 1074075026#32) * Ideal.ofBits FTy.f32 1098907648#32)

theorem bucketWord_at : ∀ d : Fin 128, bucketWord (BitVec.ofNat 32 d.val) (BitVec.ofNat 32 (step (max d.val 16))) = BitVec.ofNat 32 (bucket d.val) := by
  decide +kernel

theorem max_word : ∀ d : Fin 128, IntOp.maxsi (IntOp.maxsi (BitVec.ofNat 32 d.val) 0#32) 16#32 = BitVec.ofNat 32 (max d.val 16) := by
  decide +kernel

theorem stepWord_at (d : Fin 128) : stepWord (BitVec.ofNat 32 d.val) = BitVec.ofNat 32 (step (max d.val 16)) := by
  unfold stepWord
  rw [max_word]
  exact step_word _ (le_max_right _ _) (by omega)

theorem dist_word (r : Fin 128) (k : Fin 256) (h : Band r k) :
    IntOp.subi (IntOp.addi (BitVec.ofNat 32 r.val) 128#32) (BitVec.ofNat 32 k.val) = BitVec.ofNat 32 (r.val + 128 - k.val) := by
  revert r k
  decide +kernel

theorem bucket_toInt : ∀ d : Fin 128, min (BitVec.ofNat 32 (bucket d.val)).toInt.toNat 31 = min (bucket d.val) 31 := by decide +kernel

variable (x0 : (⟨S32x16, .f32⟩ : BufTy).Contents (Elt Ideal)) (p : Fin 2) (n : Fin 16) (r : Fin 128) (k : Fin 256)

set_option maxRecDepth 16384 in
theorem mask_apply : val_main_v20 (F := Ideal) (ix3 p r k) = if Band r k ∧ (p = 1 ∨ 128 ≤ k.val) then 1#1 else 0#1 := by
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_c, val_main_c_0, val_main_c_1, val_main_c_2]
  rw [band_word, late_word, and_word]
  match p with
  | 0 => exact if_congr (by simp) rfl rfl
  | 1 => exact if_congr (by simp) rfl rfl

set_option maxRecDepth 16384 in
theorem bucket_apply : val_main_v45 (F := Ideal) (ix2 r k)
    = bucketWord (IntOp.subi (IntOp.addi (BitVec.ofNat 32 r.val) 128#32) (BitVec.ofNat 32 k.val))
        (stepWord (IntOp.subi (IntOp.addi (BitVec.ofNat 32 r.val) 128#32) (BitVec.ofNat 32 k.val))) := by
  pointwise [val_main_v45, val_main_v44, val_main_v43, val_main_v42, val_main_v41, val_main_v40,
    val_main_v39, val_main_v38, val_main_v37, val_main_v36, val_main_v35, val_main_v34,
    val_main_v33, val_main_v32, val_main_v31, val_main_v30, val_main_v29, val_main_v28,
    val_main_v27, val_main_v26, val_main_v25, val_main_v24, val_main_v23, val_main_v22,
    val_main_v21, val_main_v8, val_main_v7, val_main_v6, val_main_v5, val_main_v4, val_main_v3, val_main_v2,
    val_main_v1, val_main_v0, val_main_c, val_main_c_3, val_main_c_4, val_main_c_7, val_main_c_8, val_main_c_9, val_main_c_10, val_main_c_11,
    val_main_cst, val_main_cst_5, val_main_cst_6]
  rfl

/-- The rows of an array picked at an array of row numbers. -/
theorem gather_apply (idx : IVec S128x256x1 32) :
    Host.gather gather_S32x16_S128x256x1_S128x256x16_2_0_n_n_0_2_116 x0 idx (ix3 r k n)
      = x0 (ix2 ⟨min (idx (ix3 r k 0)).toInt.toNat 31, by omega⟩ n) := by
  unfold Host.gather
  congr 1
  funext a
  refine Fin.ext ?_
  show GatherDims.start _ (ix3 r k n) idx a + GatherDims.batchCoord _ (ix3 r k n) a + GatherDims.offCoord _ (ix3 r k n) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S128x256x1_S128x256x16_2_0_n_n_0_2_116.startIndexMap from List.mem_singleton.mpr rfl)]
    have hsi : gather_S32x16_S128x256x1_S128x256x16_2_0_n_n_0_2_116.siIdx (ix3 r k n)
        ⟨List.idxOf (0 : Fin 2) gather_S32x16_S128x256x1_S128x256x16_2_0_n_n_0_2_116.startIndexMap,
          List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ gather_S32x16_S128x256x1_S128x256x16_2_0_n_n_0_2_116.startIndexMap from
      fun h => absurd (List.mem_singleton.mp h) (by decide))]
    simp only [Nat.zero_add]
    rfl

set_option maxRecDepth 16384 in
theorem v47_apply (h : Band r k) : val_main_v47 (F := Ideal) x0 (ix3 r k n) = x0 (ix2 ⟨min (bucket (r.val + 128 - k.val)) 31, by omega⟩ n) := by
  have hd : r.val + 128 - k.val < 128 := by have := h.2; omega
  unfold val_main_v47
  rw [gather_apply]
  have e : val_main_v46 (F := Ideal) (ix3 r k 0) = BitVec.ofNat 32 (bucket (r.val + 128 - k.val)) := by
    have : val_main_v46 (F := Ideal) (ix3 r k 0) = val_main_v45 (F := Ideal) (ix2 r k) := by
      pointwise [val_main_v46]
    rw [this, bucket_apply, dist_word r k h, stepWord_at ⟨_, hd⟩, bucketWord_at ⟨_, hd⟩]
  refine congrArg (fun z => x0 (ix2 z n)) (Fin.ext ?_)
  show min (val_main_v46 (F := Ideal) (ix3 r k 0)).toInt.toNat 31 = _
  rw [e]
  exact bucket_toInt ⟨_, hd⟩

set_option maxRecDepth 16384 in
/-- The plain table at a pair. -/
theorem v53_apply : val_main_v53 (F := Ideal) x0 (ix4 p n r k) = entry x0 p n r k := by
  have : val_main_v53 (F := Ideal) x0 (ix4 p n r k)
      = Scalar.select (val_main_v20 (F := Ideal) (ix3 p r k)) (val_main_v47 (F := Ideal) x0 (ix3 r k n) * Ideal.ofBits FTy.f32 1069066811#32)
          (Ideal.ofBits FTy.f32 4286578688#32 : EReal) := by
    pointwise [val_main_v53, val_main_call1_v3, val_main_call1_v2, val_main_call1_v1, val_main_call1_v0, val_main_cst_13, val_main_v52,
      val_main_v51, val_main_v50, val_main_v49, val_main_v48, val_main_cst_12]
    rfl
  rw [this, mask_apply]
  unfold entry
  by_cases h : Band r k ∧ (p = 1 ∨ 128 ≤ k.val)
  · rw [if_pos h, if_pos h, ValueIdx.select_one, v47_apply x0 n r k h.1]
  · rw [if_neg h, if_neg h, ValueIdx.select_zero]
    exact low_eq

end Cert.Proof.Bias

end
-- ==== Proof.Bias.lean ====
/- The bias table of the sliding-window attention: the pages the kernel writes are the plain table's. -/
module

public import proofs.«01_k».proof.Defs
public import proofs.«01_k».proof.Proof.Gen.BiasIdeal.Value
public import proofs.«01_k».proof.Proof.BiasEntry
public import proofs.«01_k».proof.Proof.BiasRef
public import proofs.«01_k».proof.Proof.Gen.BiasRefIdeal.Run
public import Idealize.ShloMosaic.Lib.Pointwise
public import Idealize.ShloMosaic.Lib.Pipeline.ValueKit

@[expose] public section

noncomputable section

namespace Cert.Proof.Bias

open Cert.BiasIdeal Cert.BiasIdeal.Gen Cert.BiasIdeal.Value Idealize.ShloMosaic Idealize.ShloMosaic.TcCoe Idealize.SL.Sem
open Cert.Proof.Swa (Band)

/-- An index of a one-page, one-row array by its other two coordinates. -/
theorem page_idx {p q : Nat} (z : (⟨4, ![1, 1, p, q]⟩ : Shape).Idx) : ∃ (r : Fin p) (k : Fin q), z = ix4 0 0 r k :=
  ⟨z 2, z 3, (eq_ix4 z).trans (congrArg₂ (fun o o' : Fin 1 => ix4 o o' (z 2) (z 3))
    (Subsingleton.elim (α := Fin 1) _ _) (Subsingleton.elim (α := Fin 1) _ _))⟩

theorem named_mask : (Named.named κ "mask" 4048155338#32 : Ideal .f32) = (⊥ : EReal) := rfl

variable (m : (ℓ : Loc nD τ sig) → Buf (Elt Ideal) ℓ)

/-- The table as the run finds it. -/
theorem table (c : Dev nD) (r : Fin 128) (k : Fin 256) :
    (V m c main_c : Vec Ideal S128x256 .i32) (ix2 r k) = lit0 ⟨r.val * 256 + k.val, by omega⟩ := by
  show lit0 (S128x256.rowMajor (ix2 r k)) = _
  exact congrArg lit0 (Fin.ext (rowMajor_val2 (ix2 r k) 256 rfl))

set_option maxRecDepth 16384 in
set_option maxHeartbeats 4000000 in
/-- The result array after the run. -/
theorem final (c : Dev nD) :
    (dats m 0 c).arrAt 2 cfg0.N
      = fun z : S2x16x128x256.Idx => entry (m ((c : Thread nD τ).loc main_arg0) : Vec Ideal S32x16 .f32) (z 0) (z 1) (z 2) (z 3) := by
  have e0 : ∀ t : Fin cfg0.N, win0_0.index t = ![0, 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![t.val, 0, 0, 0] := (by decide +kernel : ∀ t : Fin grid0.N, _)
  have e3 : ∀ t : Fin cfg0.N, (grid0.coords t 0).val = t.val := (by decide +kernel : ∀ t : Fin grid0.N, _)
  refine (dats m 0 c).arrAt_eq_of_covers 2 _ (by decide +kernel) fun t hf y => ?_
  have q0 : ∀ (b : Fin 32) (n : Fin 16), (iblk m c 0 t : Vec Ideal S32x16 .f32) (ix2 b n)
      = (m ((c : Thread nD τ).loc main_arg0) : Vec Ideal S32x16 .f32) (ix2 b n) := fun b n => by
    blk_simp [iblk]
    rw [V_main_arg0]
    exact congrArg _ (by blk_ext [e0])
  have q1 : ∀ (r : Fin 128) (k : Fin 256), (iblk m c 1 t : Vec Ideal S128x256 .i32) (ix2 r k)
      = if Band r k then BitVec.ofNat 32 (bucket (r.val + 128 - k.val)) else 4294967295#32 := fun r k => by
    rw [← lit_word, ← table m c]
    blk_simp [iblk]
    exact congrArg _ (by blk_ext [e1])
  blk_simp
  rw [after0_2]
  rw [outsAt0]
  frame_out
  change S1x16x128x256.Idx at y
  have q2 : ∀ (n : Fin 16) (r : Fin 128) (k : Fin 256), ((View.whole main_v0).slice (win0_2.rect t)).emb (ix4 0 n r k)
      = ix4 (⟨t.val, t.isLt⟩ : Fin 2) n r k := fun n r k => by blk_ext [e2]
  have H : ∀ (n : Fin 16) (r : Fin 128) (k : Fin 256),
      Scalar.select (IntOp.andi (Scalar.cmpi CmpIPredicate.eq (BitVec.ofNat 32 (grid0.coords t 0).val) 0#32)
          (IntOp.cmpi CmpIPredicate.slt (BitVec.ofNat 32 k.val) 128#32)) (Named.named κ "mask" 4048155338#32 : Ideal .f32)
        (chain (Named.named κ "mask" 4048155338#32 : Ideal .f32) ((iblk m c 1 t : Vec Ideal S128x256 .i32) (ix2 r k))
          (fun b => (iblk m c 0 t : Vec Ideal S32x16 .f32) (ix2 ⟨min b 31, by omega⟩ n)) 32)
      = entry (m ((c : Thread nD τ).loc main_arg0) : Vec Ideal S32x16 .f32) ⟨t.val, t.isLt⟩ n r k := fun n r k => by
    rw [e3, q1, named_mask]
    simp only [q0]
    exact head _ ⟨t.val, t.isLt⟩ n r k
  refine View.canon_apply_of_pieces (Val := Elt Ideal) (e := .f32)
    (fun z => (fun z : S2x16x128x256.Idx => entry (m ((c : Thread nD τ).loc main_arg0) : Vec Ideal S32x16 .f32) (z 0) (z 1) (z 2) (z 3))
      (((View.whole main_v0).slice (win0_2.rect t)).emb z)) _ ?_ y ?_
  swap
  · exact View.cover_of_tiled_head _ _ _ (by rfl) y
  simp only [List.mem_cons, List.not_mem_nil, or_false]
  rintro _ (rfl | rfl | rfl | rfl | rfl | rfl | rfl | rfl | rfl | rfl | rfl | rfl | rfl | rfl | rfl | rfl) x <;>
    change S1x1x128x256.Idx at x <;> dsimp only
  · obtain ⟨r, k, rfl⟩ := page_idx x
    have e : (Rect.unit ![0, 15, 0, 0] ![1, 1, 128, 256] inb_S1x16x128x256_S1x1x128x256_0_15_0_0).emb (ix4 0 0 r k) = ix4 0 (15 : Fin 16) r k := by
      blk_ext
    rw [e, q2 15 r k]
    refine Eq.trans ?_ (H 15 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 14, 0, 0] ![1, 1, 128, 256] inb_S1x16x128x256_S1x1x128x256_0_14_0_0).emb (ix4 0 0 r k) = ix4 0 (14 : Fin 16) r k := by
      blk_ext
    rw [e, q2 14 r k]
    refine Eq.trans ?_ (H 14 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 13, 0, 0] ![1, 1, 128, 256] inb_S1x16x128x256_S1x1x128x256_0_13_0_0).emb (ix4 0 0 r k) = ix4 0 (13 : Fin 16) r k := by
      blk_ext
    rw [e, q2 13 r k]
    refine Eq.trans ?_ (H 13 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 12, 0, 0] ![1, 1, 128, 256] inb_S1x16x128x256_S1x1x128x256_0_12_0_0).emb (ix4 0 0 r k) = ix4 0 (12 : Fin 16) r k := by
      blk_ext
    rw [e, q2 12 r k]
    refine Eq.trans ?_ (H 12 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 11, 0, 0] ![1, 1, 128, 256] inb_S1x16x128x256_S1x1x128x256_0_11_0_0).emb (ix4 0 0 r k) = ix4 0 (11 : Fin 16) r k := by
      blk_ext
    rw [e, q2 11 r k]
    refine Eq.trans ?_ (H 11 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 10, 0, 0] ![1, 1, 128, 256] inb_S1x16x128x256_S1x1x128x256_0_10_0_0).emb (ix4 0 0 r k) = ix4 0 (10 : Fin 16) r k := by
      blk_ext
    rw [e, q2 10 r k]
    refine Eq.trans ?_ (H 10 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 9, 0, 0] ![1, 1, 128, 256] inb_S1x16x128x256_S1x1x128x256_0_9_0_0).emb (ix4 0 0 r k) = ix4 0 (9 : Fin 16) r k := by
      blk_ext
    rw [e, q2 9 r k]
    refine Eq.trans ?_ (H 9 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 8, 0, 0] ![1, 1, 128, 256] inb_S1x16x128x256_S1x1x128x256_0_8_0_0).emb (ix4 0 0 r k) = ix4 0 (8 : Fin 16) r k := by
      blk_ext
    rw [e, q2 8 r k]
    refine Eq.trans ?_ (H 8 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 7, 0, 0] ![1, 1, 128, 256] inb_S1x16x128x256_S1x1x128x256_0_7_0_0).emb (ix4 0 0 r k) = ix4 0 (7 : Fin 16) r k := by
      blk_ext
    rw [e, q2 7 r k]
    refine Eq.trans ?_ (H 7 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 6, 0, 0] ![1, 1, 128, 256] inb_S1x16x128x256_S1x1x128x256_0_6_0_0).emb (ix4 0 0 r k) = ix4 0 (6 : Fin 16) r k := by
      blk_ext
    rw [e, q2 6 r k]
    refine Eq.trans ?_ (H 6 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 5, 0, 0] ![1, 1, 128, 256] inb_S1x16x128x256_S1x1x128x256_0_5_0_0).emb (ix4 0 0 r k) = ix4 0 (5 : Fin 16) r k := by
      blk_ext
    rw [e, q2 5 r k]
    refine Eq.trans ?_ (H 5 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 4, 0, 0] ![1, 1, 128, 256] inb_S1x16x128x256_S1x1x128x256_0_4_0_0).emb (ix4 0 0 r k) = ix4 0 (4 : Fin 16) r k := by
      blk_ext
    rw [e, q2 4 r k]
    refine Eq.trans ?_ (H 4 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 3, 0, 0] ![1, 1, 128, 256] inb_S1x16x128x256_S1x1x128x256_0_3_0_0).emb (ix4 0 0 r k) = ix4 0 (3 : Fin 16) r k := by
      blk_ext
    rw [e, q2 3 r k]
    refine Eq.trans ?_ (H 3 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 2, 0, 0] ![1, 1, 128, 256] inb_S1x16x128x256_S1x1x128x256_0_2_0_0).emb (ix4 0 0 r k) = ix4 0 (2 : Fin 16) r k := by
      blk_ext
    rw [e, q2 2 r k]
    refine Eq.trans ?_ (H 2 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 1, 0, 0] ![1, 1, 128, 256] inb_S1x16x128x256_S1x1x128x256_0_1_0_0).emb (ix4 0 0 r k) = ix4 0 (1 : Fin 16) r k := by
      blk_ext
    rw [e, q2 1 r k]
    refine Eq.trans ?_ (H 1 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl
  · obtain ⟨r, k, rfl⟩ := page_idx x
    have e : (Rect.unit ![0, 0, 0, 0] ![1, 1, 128, 256] inb_S1x16x128x256_S1x1x128x256_0_0_0_0).emb (ix4 0 0 r k) = ix4 0 (0 : Fin 16) r k := by
      blk_ext
    rw [e, q2 0 r k]
    refine Eq.trans ?_ (H 0 r k)
    pointwise [k0_pay1, k0_pay2, k0_pay3, k0_pay4, k0_pay5, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26, k0_pay27, k0_pay28,
        k0_pay29, k0_pay30, k0_pay31, k0_pay32, k0_pay33, k0_pay34, k0_pay35, k0_pay36, k0_pay37, k0_pay38, k0_pay39, k0_pay40, k0_pay41,
        k0_pay42, k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78, k0_pay79, k0_pay80,
        k0_pay81, k0_pay82, k0_pay83, k0_pay84, k0_pay85, k0_pay86, k0_pay87, k0_pay88, k0_pay89, k0_pay90, k0_pay91, k0_pay92, k0_pay93,
        k0_pay94, k0_pay95, k0_pay96, k0_pay97, k0_pay98, k0_pay99, k0_pay100, k0_pay101, k0_pay102, k0_pay103, k0_pay104, k0_pay105,
        k0_pay106, k0_pay107, k0_pay108, k0_pay109, k0_pay110, k0_pay111, k0_pay112, k0_pay113, k0_pay114, k0_pay115, k0_pay116, k0_pay117,
        k0_pay118, k0_pay119, k0_pay120, k0_pay121, k0_pay122, k0_pay123, k0_pay124, k0_pay125, k0_pay126, k0_pay127, k0_pay128, k0_pay129,
        k0_pay130, k0_pay131, k0_pay132, k0_pay133, k0_pay134, k0_pay135, k0_pay136, k0_pay137, k0_pay138, k0_pay139, k0_pay140, k0_pay141,
        k0_pay142, k0_pay143, k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163, k0_pay164, k0_pay165,
        k0_pay166, k0_pay167, k0_pay168, k0_pay169, k0_pay170, k0_pay171, k0_pay172, k0_pay173, k0_pay174, k0_pay175, k0_pay176, k0_pay177,
        k0_pay178, k0_pay179, k0_pay180]
    rfl

/-- From equal arguments the kernel and the plain text leave the same table. -/
theorem algebraic : Cert.algebraic_BiasIdeal_BiasRefIdeal (hBiasIdeal := Cert.BiasIdeal.Gen.facts)
    (hBiasRefIdeal := Cert.BiasRefIdeal.Gen.facts) := by
  intro m g m' g' _ h
  refine ⟨fun c => (dats m 0 c).arrAt 2 cfg0.N, run_blocks m g, ?_⟩
  refine (θ_run Cert.BiasRefIdeal.defs _ _).mono (fun r h' c => ⟨?_, (h' c).2⟩) (Cert.BiasRefIdeal.Value.run (F := Ideal) m' g')
  refine (h' c).1.trans ((Cert.BiasRefIdeal.Read.val_main_v53_eq m' c).trans ?_)
  rw [h c]
  refine Eq.trans (funext fun z : S2x16x128x256.Idx => ?_) (final m c).symm
  exact (congrArg _ (eq_ix4 z)).trans (v53_apply _ (z 0) (z 1) (z 2) (z 3))

end Cert.Proof.Bias

end
-- ==== Proof.MixIdealRun.lean ====
/- The attention output's kernel (MixIdeal): what one block of rows leaves behind, and the run of the whole call. -/
module

public import proofs.«01_k».proof.Proof.Gen.MixIdeal.Frame
public import proofs.«01_k».proof.Proof.Gen.MixIdeal.Skeleton
public import Idealize.ShloMosaic.Lib.Claim
public import Idealize.ShloMosaic.Lib.Tactic

@[expose] public section

set_option maxRecDepth 16384

noncomputable section

namespace Cert.Proof.MixIdeal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

variable (m : (ℓ : Loc nD τ sig) → Buf (Elt F) ℓ) (ρ : Dev nD → PrngReg)

set_option sl_exec.squeezeSlice true in
set_option maxHeartbeats 4000000 in
/-- What the body leaves in the results' staging memrefs, with the proof that it runs to it. -/
noncomputable def kernelRun (c : Dev nD) (i : grid0.Coords) (M0 : Memref sig .tc .vmem S1x512x1024 .bf16) (h0 : M0.IsWhole) (M1 : Memref sig .tc .vmem S1x512x1024 .bf16) (h1 : M1.IsWhole) (M2 : Memref sig .tc .vmem S1x512x2048 .f32) (h2 : M2.IsWhole) (M3 : Memref sig .tc .vmem S1x6x2048 .f32) (h3 : M3.IsWhole) (M4 : Memref sig .tc .vmem S1x1024 .f32) (h4 : M4.IsWhole) (M5 : Memref sig .tc .vmem S1x1024 .f32) (h5 : M5.IsWhole) (M6 : Memref sig .tc .vmem S2048x2048 .bf16) (h6 : M6.IsWhole) (M7 : Memref sig .tc .vmem S1x2048 .f32) (h7 : M7.IsWhole) (M8 : Memref sig .tc .vmem S1x2048 .f32) (h8 : M8.IsWhole) (M9 : Memref sig .tc .vmem S2048x256 .bf16) (h9 : M9.IsWhole) (M10 : Memref sig .tc .vmem S1x128 .f32) (h10 : M10.IsWhole) (M11 : Memref sig .tc .vmem S1x512x2048 .f32) (h11 : M11.IsWhole) (M12 : Memref sig .tc .vmem S1x4096x2x128 .bf16) (h12 : M12.IsWhole) (M13 : Memref sig .tc .vmem S1x512x128 .f32) (h13 : M13.IsWhole)
    (x0 : Vec F S1x512x1024 .bf16) (x1 : Vec F S1x512x1024 .bf16) (x2 : Vec F S1x512x2048 .f32) (x3 : Vec F S1x6x2048 .f32) (x4 : Vec F S1x1024 .f32) (x5 : Vec F S1x1024 .f32) (x6 : Vec F S2048x2048 .bf16) (x7 : Vec F S1x2048 .f32) (x8 : Vec F S1x2048 .f32) (x9 : Vec F S2048x256 .bf16) (x10 : Vec F S1x128 .f32) :
    { Y : Vec F S1x512x2048 .f32 × Vec F S1x4096x2x128 .bf16 × Vec F S1x512x128 .f32 //
      ∀ (E : Set ℕ) (K : PUnit → sProp (MT nD τ sig Unit (Elt F) ℕ (UR sig nD τ) ℕ)),
        iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ (∃ d, owns (c : Thread nD τ) M11 fullShare d) ∗ (∃ d, owns (c : Thread nD τ) M12 fullShare d) ∗ (∃ d, owns (c : Thread nD τ) M13 fullShare d)
            ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare Y.1 ∗ owns (c : Thread nD τ) M12 fullShare Y.2.1 ∗ owns (c : Thread nD τ) M13 fullShare Y.2.2) -∗ K ⟨⟩))
          ⊢ wp frame (wpE (defs₀ (F := F)) Variants.none c none) E (cc0_mix_ln1 i M0 h0 M1 h1 M2 h2 M3 h3 M4 h4 M5 h5 M6 h6 M7 h7 M8 h8 M9 h9 M10 h10 M11 h11 M12 h12 M13 h13) K } := by
  refine ⟨(?Y1, ?Y2, ?Y3), fun E K => ?run⟩
  case run =>
    simp only [cc0_mix_ln1_eq_skeleton]; unfold cc0_mix_ln1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; swap; · iexact H11
      ipureintro
      refine View.read_writes_eq_canon (Val := Elt F) _ _ _ fun y => ?_
      exact View.cover_of_tiled (Val := Elt F) _ ![1, 256, 2048] (by rfl) y
    isplitl [H12]
    · iexists _; isplitr; swap; · iexact H12
      ipureintro
      refine View.read_writes_eq_canon (Val := Elt F) _ _ _ fun y => ?_
      · have hy : (y 1).val < 4096 := (y 1).isLt
        have h0 : (y 0).val < 1 := (y 0).isLt
        have hy2 : (y 2).val < 2 := (y 2).isLt
        have hy3 : (y 3).val < 128 := (y 3).isLt
        obtain ⟨p, s, hp, hs, e⟩ : ∃ p s, p < 2 ∧ s < 8 ∧ (y 1).val = 2048 * p + s + 8 * ((y 1).val % 2048 / 8) := ⟨(y 1).val / 2048, (y 1).val % 8, by omega, by omega, by omega⟩
        rcases (by omega : p = 0 ∨ p = 1) with rfl | rfl <;>
          rcases (by omega : s = 0 ∨ s = 1 ∨ s = 2 ∨ s = 3 ∨ s = 4 ∨ s = 5 ∨ s = 6 ∨ s = 7) with rfl | rfl | rfl | rfl | rfl | rfl | rfl | rfl
        · refine ⟨_, .tail _ (.tail _ (.tail _ (.tail _ (.tail _ (.tail _ (.tail _ (.tail _ (.tail _ (.tail _ (.tail _ (.tail _ (.tail _ (.tail _ (.tail _ (.head _))))))))))))))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (0 + 0) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.tail _ (.tail _ (.tail _ (.tail _ (.tail _ (.tail _ (.tail _ (.tail _ (.tail _ (.tail _ (.tail _ (.tail _ (.head _)))))))))))))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (0 + 1) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.tail _ (.tail _ (.tail _ (.tail _ (.tail _ (.tail _ (.tail _ (.tail _ (.tail _ (.tail _ (.tail _ (.head _))))))))))))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (0 + 2) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.tail _ (.tail _ (.tail _ (.tail _ (.tail _ (.tail _ (.tail _ (.tail _ (.tail _ (.tail _ (.head _)))))))))))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (0 + 3) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.tail _ (.tail _ (.tail _ (.tail _ (.tail _ (.tail _ (.tail _ (.tail _ (.tail _ (.head _))))))))))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (0 + 4) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.tail _ (.tail _ (.tail _ (.tail _ (.tail _ (.tail _ (.tail _ (.tail _ (.head _)))))))))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (0 + 5) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.tail _ (.tail _ (.tail _ (.tail _ (.tail _ (.tail _ (.tail _ (.head _))))))))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (0 + 6) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.tail _ (.tail _ (.tail _ (.tail _ (.tail _ (.tail _ (.head _)))))))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (0 + 7) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.tail _ (.tail _ (.tail _ (.tail _ (.tail _ (.head _))))))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (2048 + 0) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.tail _ (.tail _ (.tail _ (.tail _ (.head _)))))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (2048 + 1) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.tail _ (.tail _ (.tail _ (.head _))))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (2048 + 2) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.tail _ (.tail _ (.head _)))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (2048 + 3) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.tail _ (.head _))), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (2048 + 4) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.tail _ (.head _)), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (2048 + 5) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .tail _ (.head _), (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (2048 + 6) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
        · refine ⟨_, .head _, (LoadRect.mem_set _).mpr fun a => ?_⟩
          match a with
          | ⟨0, _⟩ => exact ⟨0, Nat.one_pos, show (y 0).val = 0 by omega⟩
          | ⟨1, _⟩ => exact ⟨(y 1).val % 2048 / 8, show _ < 256 by omega, show (y 1).val = (2048 + 7) + 8 * ((y 1).val % 2048 / 8) by omega⟩
          | ⟨2, _⟩ => exact ⟨(y 2).val, hy2, show (y 2).val = (0 + 0) + 1 * (y 2).val by omega⟩
          | ⟨3, _⟩ => exact ⟨(y 3).val, hy3, show (y 3).val = (0 + 0) + 1 * (y 3).val by omega⟩
    iexists _; isplitr; swap; · iexact H13
    ipureintro
    refine View.read_writes_eq_canon (Val := Elt F) _ _ _ fun y => ?_
    exact View.cover_of_tiled (Val := Elt F) _ ![1, 256, 128] (by rfl) y

/-! ## The run -/

/-- What the body leaves in the results' staging memrefs at a point. -/
noncomputable def outs (c : Dev nD) (t : Fin cfg0.N) : Vec F S1x512x2048 .f32 × Vec F S1x4096x2x128 .bf16 × Vec F S1x512x128 .f32 :=
  (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13))
    (iblk m c 0 t) (iblk m c 1 t) (iblk m c 2 t) (iblk m c 3 t) (iblk m c 4 t) (iblk m c 5 t) (iblk m c 6 t) (iblk m c 7 t) (iblk m c 8 t) (iblk m c 9 t) (iblk m c 10 t)).1

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outs m c t).1
    | ⟨12, _⟩ => (outs m c t).2.1
    | ⟨13, _⟩ => (outs m c t).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outs m c t).1 := by dsimp only [dats]
theorem after0_12 (c : Dev nD) (t : Fin cfg0.N) : (dats m 0 c).after 12 t = (outs m c t).2.1 := by dsimp only [dats]
theorem after0_13 (c : Dev nD) (t : Fin cfg0.N) : (dats m 0 c).after 13 t = (outs m c t).2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  unfold outs
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends, with every array of the call at what its blocks give, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12)) :=
  frame_of m ρ (dats m) (A_eq m) (run_main m ρ)

/-- The arguments end as they began and no semaphore is left raised. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Proof.MixIdeal

end
-- ==== Proof.MixValue.lean ====
/- The attention output's projection and its LayerNorm: the kernel's blocks, whose heads stand in another order, are the
   plain text's rows. -/
module

public import proofs.«01_k».proof.Defs
public import proofs.«01_k».proof.Proof.MixIdealRun
public import proofs.«01_k».proof.Proof.Gen.MixRefIdeal.Run
public import proofs.«01_k».proof.Proof.Gen.MixRefIdeal.Read
public import Idealize.ShloMosaic.Lib.Pointwise
public import Idealize.ShloMosaic.Lib.Pipeline.ValueKit
public import Idealize.ShloMosaic.Lib.StableHlo.ReadAt
public import Idealize.ShloMosaic.Lib.WholeRead

@[expose] public section

noncomputable section

namespace Cert.Proof.MixIdeal

open Cert.MixIdeal Cert.MixIdeal.Gen Idealize.ShloMosaic Idealize.ShloMosaic.TcCoe Idealize.SL.Sem

/-- A row normalized by the root of its mean square, with the weights' entry. -/
def hat (o g : Fin 1024 → EReal) (k : Fin 1024) : EReal :=
  o k * Ideal.rsqrt (Ideal.div (∑ j, o j * o j) (Ideal.ofBits .f32 0x44800000#32) + Ideal.ofBits .f32 0x3727C5AC#32) * g k

/-- The residual with the gated product of the two normalized halves. -/
def pre (x gate : Fin 2048 → EReal) (ha hb : Fin 1024 → EReal) (wa wb : Fin 1024 → Fin 2048 → EReal) (n : Fin 2048) : EReal :=
  Ideal.ofBits .f32 0x3F9837F0#32 * x n + (1 + gate n) * (∑ k, ha k * wa k n + ∑ k, hb k * wb k n)

/-- A row less its mean. -/
def dev (y : Fin 2048 → EReal) (n : Fin 2048) : EReal :=
  y n - Ideal.div (∑ j, y j) (Ideal.ofBits .f32 0x45000000#32)

/-- LayerNorm of a row. -/
def lnorm (y g b : Fin 2048 → EReal) (n : Fin 2048) : EReal :=
  dev y n * Ideal.rsqrt (Ideal.div (∑ j, dev y j * dev y j) (Ideal.ofBits .f32 0x45000000#32) + Ideal.ofBits .f32 0x3727C5AC#32)
    * g n + b n

theorem lower_apply (oa ob : Vec Ideal S1x256x1024 .bf16) (x : Vec Ideal S1x256x2048 .f32) (gate : Vec Ideal S1x1x2048 .f32)
    (na nb : Vec Ideal S1x1024 .f32) (wa wb : Vec Ideal S1024x2048 .bf16) (g b : Vec Ideal S1x2048 .f32) (r : Fin 256) (n : Fin 2048) :
    k0_pay17 (F := Ideal) g b (k0_pay14 (k0_pay3 gate) (k0_pay6 oa na) (k0_pay11 ob nb) wa wb x)
        (k0_pay15 (k0_pay3 gate) (k0_pay6 oa na) (k0_pay11 ob nb) wa wb x) (ix3 0 r n)
      = lnorm (pre (fun n => x (ix3 0 r n)) (fun n => gate (ix3 0 0 n))
          (hat (fun k => oa (ix3 0 r k)) fun k => na (ix2 0 k)) (hat (fun k => ob (ix3 0 r k)) fun k => nb (ix2 0 k))
          (fun k n => wa (ix2 k n)) (fun k n => wb (ix2 k n))) (fun n => g (ix2 0 n)) (fun n => b (ix2 0 n)) n := by
  pointwise [Gen.k0_pay17, Gen.k0_pay16, Gen.k0_pay15, Gen.k0_pay14, Gen.k0_pay11, Gen.k0_pay6, Gen.k0_pay3]
  rfl

theorem upper_apply (oa ob : Vec Ideal S1x256x1024 .bf16) (x : Vec Ideal S1x256x2048 .f32) (gate : Vec Ideal S1x1x2048 .f32)
    (na nb : Vec Ideal S1x1024 .f32) (wa wb : Vec Ideal S1024x2048 .bf16) (g b : Vec Ideal S1x2048 .f32) (r : Fin 256) (n : Fin 2048) :
    k0_pay36 (F := Ideal) (k0_pay3 gate) (k0_pay13 (k0_pay10 (k0_pay7 oa) (k0_pay8 na) (k0_pay9 oa)) (k0_pay12 ob nb) wa wb)
        x g b (ix3 0 r n)
      = lnorm (pre (fun n => x (ix3 0 r n)) (fun n => gate (ix3 0 0 n))
          (hat (fun k => oa (ix3 0 r k)) fun k => na (ix2 0 k)) (hat (fun k => ob (ix3 0 r k)) fun k => nb (ix2 0 k))
          (fun k n => wa (ix2 k n)) (fun k n => wb (ix2 k n))) (fun n => g (ix2 0 n)) (fun n => b (ix2 0 n)) n := by
  pointwise [Gen.k0_pay36, Gen.k0_pay35, Gen.k0_pay13, Gen.k0_pay12, Gen.k0_pay10, Gen.k0_pay9, Gen.k0_pay8,
    Gen.k0_pay7,
    Gen.k0_pay3]
  rfl

/-- Where the plain text's head order finds the kernel's columns, -/
def col (k : Fin 1024) : Fin 1024 := ⟨k.val / 64 % 8 * 128 + k.val / 512 * 64 + k.val % 64, by omega⟩

/-- and back. -/
def row (k : Fin 1024) : Fin 1024 := ⟨k.val / 64 % 2 * 512 + k.val / 128 * 64 + k.val % 64, by omega⟩

theorem row_col (k : Fin 1024) : row (col k) = k := by
  obtain ⟨a, b, c, ha, hb, hc, h⟩ : ∃ a b c, a < 2 ∧ b < 8 ∧ c < 64 ∧ k.val = a * 512 + b * 64 + c :=
    ⟨k.val / 512, k.val / 64 % 8, k.val % 64, by omega, by omega, by omega, by omega⟩
  have e : (col k).val = b * 128 + a * 64 + c := by dsimp only [col]; omega
  have e1 : (col k).val / 64 = 2 * b + a := by omega
  have e2 : (col k).val / 128 = b := by omega
  have e3 : (col k).val % 64 = c := by omega
  exact Fin.ext (by dsimp only [row]; omega)

theorem col_row (k : Fin 1024) : col (row k) = k := by
  obtain ⟨a, b, c, ha, hb, hc, h⟩ : ∃ a b c, a < 2 ∧ b < 8 ∧ c < 64 ∧ k.val = b * 128 + a * 64 + c :=
    ⟨k.val / 64 % 2, k.val / 128, k.val % 64, by omega, by omega, by omega, by omega⟩
  have e : (row k).val = a * 512 + b * 64 + c := by dsimp only [row]; omega
  have e1 : (row k).val / 64 = 8 * a + b := by omega
  have e2 : (row k).val / 512 = a := by omega
  have e3 : (row k).val % 64 = c := by omega
  exact Fin.ext (by dsimp only [col]; omega)

theorem sum_col (f : Fin 1024 → EReal) : ∑ k, f (col k) = ∑ k, f k :=
  Equiv.sum_comp (⟨col, row, row_col, col_row⟩ : Fin 1024 ≃ Fin 1024) f

/-- Normalizing the reordered row is reordering the normalized row. -/
theorem hat_col (o g : Fin 1024 → EReal) (k : Fin 1024) : hat (fun j => o (col j)) g k = hat o (fun j => g (row j)) (col k) := by
  unfold hat
  rw [sum_col fun j => o j * o j]
  dsimp only
  rw [row_col]

set_option maxRecDepth 16384 in
theorem ref_a (x0 : Vec Ideal S16x2048x1024 .bf16) (x4 : Vec Ideal S1x1024 .f32) (b : Fin 16) (r : Fin 2048) (k : Fin 1024) :
    Cert.MixRefIdeal.Read.val_main_v24 (F := Ideal) x0 x4 (ix3 b r k)
      = hat (fun j => x0 (ix3 b r (col j))) (fun j => x4 (ix2 0 j)) k := by
  pointwise [Cert.MixRefIdeal.Read.val_main_v24, Cert.MixRefIdeal.Read.val_main_v23,
    Cert.MixRefIdeal.Read.val_main_v22, Cert.MixRefIdeal.Read.val_main_v21, Cert.MixRefIdeal.Read.val_main_v20,
    Cert.MixRefIdeal.Read.val_main_v19, Cert.MixRefIdeal.Read.val_main_v18, Cert.MixRefIdeal.Read.val_main_v17,
    Cert.MixRefIdeal.Read.val_main_v16, Cert.MixRefIdeal.Read.val_main_v15, Cert.MixRefIdeal.Read.val_main_v14,
    Cert.MixRefIdeal.Read.val_main_v13, Cert.MixRefIdeal.Read.val_main_v12, Cert.MixRefIdeal.Read.val_main_v11,
    Cert.MixRefIdeal.Read.val_main_v10, Cert.MixRefIdeal.Read.val_main_cst_1, Cert.MixRefIdeal.Read.val_main_cst_0,
    Cert.MixRefIdeal.Read.val_main_cst, Cert.MixRefIdeal.Read.val_main_v2, Cert.MixRefIdeal.Read.val_main_v1,
    Cert.MixRefIdeal.Read.val_main_v0]
  rfl

set_option maxRecDepth 16384 in
theorem ref_b (x1 : Vec Ideal S16x2048x1024 .bf16) (x5 : Vec Ideal S1x1024 .f32) (b : Fin 16) (r : Fin 2048) (k : Fin 1024) :
    Cert.MixRefIdeal.Read.val_main_v39 (F := Ideal) x1 x5 (ix3 b r k)
      = hat (fun j => x1 (ix3 b r j)) (fun j => x5 (ix2 0 j)) k := by
  pointwise [Cert.MixRefIdeal.Read.val_main_v39, Cert.MixRefIdeal.Read.val_main_v38,
    Cert.MixRefIdeal.Read.val_main_v37, Cert.MixRefIdeal.Read.val_main_v36, Cert.MixRefIdeal.Read.val_main_v35,
    Cert.MixRefIdeal.Read.val_main_v34, Cert.MixRefIdeal.Read.val_main_v33, Cert.MixRefIdeal.Read.val_main_v32,
    Cert.MixRefIdeal.Read.val_main_v31, Cert.MixRefIdeal.Read.val_main_v30, Cert.MixRefIdeal.Read.val_main_v29,
    Cert.MixRefIdeal.Read.val_main_v28, Cert.MixRefIdeal.Read.val_main_v27, Cert.MixRefIdeal.Read.val_main_v26,
    Cert.MixRefIdeal.Read.val_main_v25, Cert.MixRefIdeal.Read.val_main_cst_4, Cert.MixRefIdeal.Read.val_main_cst_3,
    Cert.MixRefIdeal.Read.val_main_cst_2]
  rfl

set_option maxRecDepth 16384 in
theorem ref_dot (x0 x1 : Vec Ideal S16x2048x1024 .bf16) (x4 x5 : Vec Ideal S1x1024 .f32) (x6 : Vec Ideal S1x2048x2048 .f32)
    (b : Fin 16) (r n : Fin 2048) :
    Cert.MixRefIdeal.Read.val_main_v42 (F := Ideal) x0 x1 x4 x5 x6 (ix3 b r n)
      = ∑ k : Fin 1024, hat (fun j => x0 (ix3 b r j)) (fun j => x4 (ix2 0 (row j))) k * x6 (ix3 0 ⟨(row k).val, by omega⟩ n)
        + ∑ k : Fin 1024, hat (fun j => x1 (ix3 b r j)) (fun j => x5 (ix2 0 j)) k * x6 (ix3 0 ⟨1024 + k.val, by omega⟩ n) := by
  have hl : ∀ k : Fin 1024, Cert.MixRefIdeal.Read.val_main_v40 (F := Ideal) x0 x1 x4 x5 (ix3 b r ⟨k.val, by omega⟩)
      = hat (fun j => x0 (ix3 b r j)) (fun j => x4 (ix2 0 (row j))) (col k) := by
    intro k
    rw [← hat_col (fun j => x0 (ix3 b r j)) (fun j => x4 (ix2 0 j)) k, ← ref_a x0 x4 b r k]
    pointwise [Cert.MixRefIdeal.Read.val_main_v40]
  have hu : ∀ k : Fin 1024, Cert.MixRefIdeal.Read.val_main_v40 (F := Ideal) x0 x1 x4 x5 (ix3 b r ⟨1024 + k.val, by omega⟩)
      = hat (fun j => x1 (ix3 b r j)) (fun j => x5 (ix2 0 j)) k := by
    intro k
    rw [← ref_b x1 x5 b r k]
    pointwise [Cert.MixRefIdeal.Read.val_main_v40]
  have hs : Cert.MixRefIdeal.Read.val_main_v42 (F := Ideal) x0 x1 x4 x5 x6 (ix3 b r n)
      = ∑ k : Fin 2048, Cert.MixRefIdeal.Read.val_main_v40 (F := Ideal) x0 x1 x4 x5 (ix3 b r k) * x6 (ix3 0 k n) := by
    pointwise [Cert.MixRefIdeal.Read.val_main_v42, Cert.MixRefIdeal.Read.val_main_v41]
  rw [hs]
  refine (Fin.sum_univ_add (a := 1024) (b := 1024) (M := EReal) _).trans ?_
  refine congrArg₂ (· + ·) ?_ (Finset.sum_congr (M := EReal) rfl fun k _ => congrArg (· * _) (hu k))
  refine (Finset.sum_congr (M := EReal) rfl fun k _ => ?_).trans
    (sum_col fun k => hat (fun j => x0 (ix3 b r j)) (fun j => x4 (ix2 0 (row j))) k * x6 (ix3 0 ⟨(row k).val, by omega⟩ n))
  refine congrArg₂ (· * ·) (hl k) ?_
  exact congrArg _ (congrArg (ix3 0 · n) (Fin.ext (congrArg Fin.val (row_col k)).symm))

set_option maxRecDepth 16384 in
theorem ref_apply (x0 x1 : Vec Ideal S16x2048x1024 .bf16) (x2 : Vec Ideal S16x2048x2048 .f32) (x3 : Vec Ideal S16x12288 .f32)
    (x4 x5 : Vec Ideal S1x1024 .f32) (x6 : Vec Ideal S1x2048x2048 .f32) (x7 x8 : Vec Ideal S1x2048 .f32) (b : Fin 16) (r n : Fin 2048) :
    Cert.MixRefIdeal.Read.val_main_v75 (F := Ideal) x0 x1 x2 x3 x4 x5 x6 x7 x8 (ix3 b r n)
      = lnorm (pre (fun n => x2 (ix3 b r n)) (fun n => x3 (ix2 b ⟨4096 + n.val, by omega⟩))
          (hat (fun k => x0 (ix3 b r k)) fun k => x4 (ix2 0 (row k))) (hat (fun k => x1 (ix3 b r k)) fun k => x5 (ix2 0 k))
          (fun k n => x6 (ix3 0 ⟨(row k).val, by omega⟩ n)) (fun k n => x6 (ix3 0 ⟨1024 + k.val, by omega⟩ n)))
          (fun n => x7 (ix2 0 n)) (fun n => x8 (ix2 0 n)) n := by
  have hy : ∀ n : Fin 2048, Cert.MixRefIdeal.Read.val_main_v49 (F := Ideal) x0 x1 x2 x3 x4 x5 x6 (ix3 b r n)
      = pre (fun n => x2 (ix3 b r n)) (fun n => x3 (ix2 b ⟨4096 + n.val, by omega⟩))
          (hat (fun k => x0 (ix3 b r k)) fun k => x4 (ix2 0 (row k))) (hat (fun k => x1 (ix3 b r k)) fun k => x5 (ix2 0 k))
          (fun k n => x6 (ix3 0 ⟨(row k).val, by omega⟩ n)) (fun k n => x6 (ix3 0 ⟨1024 + k.val, by omega⟩ n)) n := by
    intro n
    unfold pre
    rw [← ref_dot]
    pointwise [Cert.MixRefIdeal.Read.val_main_v49, Cert.MixRefIdeal.Read.val_main_v48,
      Cert.MixRefIdeal.Read.val_main_v47, Cert.MixRefIdeal.Read.val_main_v46, Cert.MixRefIdeal.Read.val_main_v45,
      Cert.MixRefIdeal.Read.val_main_v44, Cert.MixRefIdeal.Read.val_main_v43, Cert.MixRefIdeal.Read.val_main_v9,
      Cert.MixRefIdeal.Read.val_main_v5, Cert.MixRefIdeal.Read.val_main_cst_6, Cert.MixRefIdeal.Read.val_main_cst_5]
  pointwise [Cert.MixRefIdeal.Read.val_main_v75, Cert.MixRefIdeal.Read.val_main_v74,
    Cert.MixRefIdeal.Read.val_main_v73, Cert.MixRefIdeal.Read.val_main_v72, Cert.MixRefIdeal.Read.val_main_v71,
    Cert.MixRefIdeal.Read.val_main_v70, Cert.MixRefIdeal.Read.val_main_v69, Cert.MixRefIdeal.Read.val_main_v68,
    Cert.MixRefIdeal.Read.val_main_v67, Cert.MixRefIdeal.Read.val_main_v66, Cert.MixRefIdeal.Read.val_main_v65,
    Cert.MixRefIdeal.Read.val_main_v64, Cert.MixRefIdeal.Read.val_main_v63, Cert.MixRefIdeal.Read.val_main_v62,
    Cert.MixRefIdeal.Read.val_main_v61, Cert.MixRefIdeal.Read.val_main_v60, Cert.MixRefIdeal.Read.val_main_v59,
    Cert.MixRefIdeal.Read.val_main_v58, Cert.MixRefIdeal.Read.val_main_v57, Cert.MixRefIdeal.Read.val_main_v56,
    Cert.MixRefIdeal.Read.val_main_v55, Cert.MixRefIdeal.Read.val_main_v54, Cert.MixRefIdeal.Read.val_main_v53,
    Cert.MixRefIdeal.Read.val_main_v52, Cert.MixRefIdeal.Read.val_main_v51, Cert.MixRefIdeal.Read.val_main_v50,
    Cert.MixRefIdeal.Read.val_main_cst_7, Cert.MixRefIdeal.Read.val_main_cst_8, Cert.MixRefIdeal.Read.val_main_cst_9,
    Cert.MixRefIdeal.Read.val_main_cst_10, Cert.MixRefIdeal.Read.val_main_cst_11]
  simp only [hy]
  rfl

variable (m : (ℓ : Loc nD τ sig) → Buf (Elt Ideal) ℓ)

theorem mod_apply (c : Dev nD) (b : Fin 16) (j : Fin 6) (k : Fin 2048) :
    (V m c main_v0 : Vec Ideal S16x6x2048 .f32) (ix3 b j k)
      = (m ((c : Thread nD τ).loc main_arg3) : Vec Ideal S16x12288 .f32) (ix2 b ⟨j.val * 2048 + k.val, by omega⟩) := by
  unfold V
  after_reads_at

theorem na_apply (c : Dev nD) (k : Fin 1024) :
    (V m c main_v3 : Vec Ideal S1x1024 .f32) (ix2 0 k)
      = (m ((c : Thread nD τ).loc main_arg4) : Vec Ideal S1x1024 .f32) (ix2 0 (row k)) := by
  unfold V
  after_reads_at
  rfl

theorem wa_apply (c : Dev nD) (k : Fin 1024) (n : Fin 2048) :
    (V m c main_v12 : Vec Ideal S2048x2048 .bf16) (ix2 ⟨k.val, by omega⟩ n)
      = (m ((c : Thread nD τ).loc main_arg6) : Vec Ideal S1x2048x2048 .f32) (ix3 0 ⟨(row k).val, by omega⟩ n) := by
  unfold V
  after_reads_at
  after_reads_at
  rfl

theorem wb_apply (c : Dev nD) (k : Fin 1024) (n : Fin 2048) :
    (V m c main_v12 : Vec Ideal S2048x2048 .bf16) (ix2 ⟨1024 + k.val, by omega⟩ n)
      = (m ((c : Thread nD τ).loc main_arg6) : Vec Ideal S1x2048x2048 .f32) (ix3 0 ⟨1024 + k.val, by omega⟩ n) := by
  unfold V
  after_reads_at
  after_reads_at

/-- What the body leaves in the result's staging memref: two stores of 256 rows. -/
theorem outs_eq (c : Dev nD) (t : Fin cfg0.N) : (outs m c t).1 = View.canon [
    ⟨(Rect.unit ![0, 256, 0] ![1, 256, 2048] inb_S1x512x2048_S1x256x2048_0_256_0),
      k0_pay36 (k0_pay3 (View.ld (iblk m c 3 t) (Rect.unit ![0, 2, 0] ![1, 1, 2048] inb_S1x6x2048_S1x1x2048_0_2_0)))
        (k0_pay13 (k0_pay10 (k0_pay7 (View.ld (iblk m c 0 t) (Rect.unit ![0, 256, 0] ![1, 256, 1024] inb_S1x512x1024_S1x256x1024_0_256_0)))
            (k0_pay8 (View.ld (iblk m c 4 t) (Rect.unit ![0, 0] ![1, 1024] inb_S1x1024_S1x1024_0_0)))
            (k0_pay9 (View.ld (iblk m c 0 t) (Rect.unit ![0, 256, 0] ![1, 256, 1024] inb_S1x512x1024_S1x256x1024_0_256_0))))
          (k0_pay12 (View.ld (iblk m c 1 t) (Rect.unit ![0, 256, 0] ![1, 256, 1024] inb_S1x512x1024_S1x256x1024_0_256_0))
            (View.ld (iblk m c 5 t) (Rect.unit ![0, 0] ![1, 1024] inb_S1x1024_S1x1024_0_0)))
          (View.ld (iblk m c 6 t) (Rect.unit ![0, 0] ![1024, 2048] inb_S2048x2048_S1024x2048_0_0))
          (View.ld (iblk m c 6 t) (Rect.unit ![1024, 0] ![1024, 2048] inb_S2048x2048_S1024x2048_1024_0)))
        (View.ld (iblk m c 2 t) (Rect.unit ![0, 256, 0] ![1, 256, 2048] inb_S1x512x2048_S1x256x2048_0_256_0))
        (View.ld (iblk m c 7 t) (Rect.unit ![0, 0] ![1, 2048] inb_S1x2048_S1x2048_0_0))
        (View.ld (iblk m c 8 t) (Rect.unit ![0, 0] ![1, 2048] inb_S1x2048_S1x2048_0_0))⟩,
    ⟨(Rect.unit ![0, 0, 0] ![1, 256, 2048] inb_S1x512x2048_S1x256x2048_0_0_0),
      k0_pay17 (View.ld (iblk m c 7 t) (Rect.unit ![0, 0] ![1, 2048] inb_S1x2048_S1x2048_0_0))
        (View.ld (iblk m c 8 t) (Rect.unit ![0, 0] ![1, 2048] inb_S1x2048_S1x2048_0_0))
        (k0_pay14 (k0_pay3 (View.ld (iblk m c 3 t) (Rect.unit ![0, 2, 0] ![1, 1, 2048] inb_S1x6x2048_S1x1x2048_0_2_0)))
          (k0_pay6 (View.ld (iblk m c 0 t) (Rect.unit ![0, 0, 0] ![1, 256, 1024] inb_S1x512x1024_S1x256x1024_0_0_0))
            (View.ld (iblk m c 4 t) (Rect.unit ![0, 0] ![1, 1024] inb_S1x1024_S1x1024_0_0)))
          (k0_pay11 (View.ld (iblk m c 1 t) (Rect.unit ![0, 0, 0] ![1, 256, 1024] inb_S1x512x1024_S1x256x1024_0_0_0))
            (View.ld (iblk m c 5 t) (Rect.unit ![0, 0] ![1, 1024] inb_S1x1024_S1x1024_0_0)))
          (View.ld (iblk m c 6 t) (Rect.unit ![0, 0] ![1024, 2048] inb_S2048x2048_S1024x2048_0_0))
          (View.ld (iblk m c 6 t) (Rect.unit ![1024, 0] ![1024, 2048] inb_S2048x2048_S1024x2048_1024_0))
          (View.ld (iblk m c 2 t) (Rect.unit ![0, 0, 0] ![1, 256, 2048] inb_S1x512x2048_S1x256x2048_0_0_0)))
        (k0_pay15 (k0_pay3 (View.ld (iblk m c 3 t) (Rect.unit ![0, 2, 0] ![1, 1, 2048] inb_S1x6x2048_S1x1x2048_0_2_0)))
          (k0_pay6 (View.ld (iblk m c 0 t) (Rect.unit ![0, 0, 0] ![1, 256, 1024] inb_S1x512x1024_S1x256x1024_0_0_0))
            (View.ld (iblk m c 4 t) (Rect.unit ![0, 0] ![1, 1024] inb_S1x1024_S1x1024_0_0)))
          (k0_pay11 (View.ld (iblk m c 1 t) (Rect.unit ![0, 0, 0] ![1, 256, 1024] inb_S1x512x1024_S1x256x1024_0_0_0))
            (View.ld (iblk m c 5 t) (Rect.unit ![0, 0] ![1, 1024] inb_S1x1024_S1x1024_0_0)))
          (View.ld (iblk m c 6 t) (Rect.unit ![0, 0] ![1024, 2048] inb_S2048x2048_S1024x2048_0_0))
          (View.ld (iblk m c 6 t) (Rect.unit ![1024, 0] ![1024, 2048] inb_S2048x2048_S1024x2048_1024_0))
          (View.ld (iblk m c 2 t) (Rect.unit ![0, 0, 0] ![1, 256, 2048] inb_S1x512x2048_S1x256x2048_0_0_0)))⟩] := by
  unfold outs kernelRun
  dsimp only
  simp only [kernelRun.sl.r, kernelRun.sl.r_3, kernelRun.sl.r_4, kernelRun.sl.r_5,
    kernelRun.sl.r_6, kernelRun.sl.r_7, kernelRun.sl.r_8, kernelRun.sl.r_9, kernelRun.sl.r_10, kernelRun.sl.r_11,
    kernelRun.sl.r_12, kernelRun.sl.r_13, kernelRun.sl.r_14, View.readAt_eq_ld, Memref.IsWhole.read_unread]
  rfl

/-- The same, an element at a time. -/
theorem outs_apply (c : Dev nD) (t : Fin cfg0.N) (r : Fin 512) (n : Fin 2048) : (outs m c t).1 (ix3 0 r n)
    = lnorm (pre (fun n => (iblk m c 2 t : Vec Ideal S1x512x2048 .f32) (ix3 0 r n))
        (fun n => (iblk m c 3 t : Vec Ideal S1x6x2048 .f32) (ix3 0 2 n))
        (hat (fun k => (iblk m c 0 t : Vec Ideal S1x512x1024 .bf16) (ix3 0 r k)) fun k => (iblk m c 4 t : Vec Ideal S1x1024 .f32) (ix2 0 k))
        (hat (fun k => (iblk m c 1 t : Vec Ideal S1x512x1024 .bf16) (ix3 0 r k)) fun k => (iblk m c 5 t : Vec Ideal S1x1024 .f32) (ix2 0 k))
        (fun k n => (iblk m c 6 t : Vec Ideal S2048x2048 .bf16) (ix2 ⟨k.val, by omega⟩ n))
        (fun k n => (iblk m c 6 t : Vec Ideal S2048x2048 .bf16) (ix2 ⟨1024 + k.val, by omega⟩ n)))
        (fun n => (iblk m c 7 t : Vec Ideal S1x2048 .f32) (ix2 0 n)) (fun n => (iblk m c 8 t : Vec Ideal S1x2048 .f32) (ix2 0 n)) n := by
  rw [outs_eq]
  have hr := r.isLt
  have g : ∀ k : Fin 2048, (View.ld (iblk m c 3 t) (Rect.unit ![0, 2, 0] ![1, 1, 2048] inb_S1x6x2048_S1x1x2048_0_2_0)) (ix3 0 0 k)
      = (iblk m c 3 t : Vec Ideal S1x6x2048 .f32) (ix3 0 2 k) := fun k => by pointwise
  have a : ∀ k : Fin 1024, (View.ld (iblk m c 4 t) (Rect.unit ![0, 0] ![1, 1024] inb_S1x1024_S1x1024_0_0)) (ix2 0 k)
      = (iblk m c 4 t : Vec Ideal S1x1024 .f32) (ix2 0 k) := fun k => by pointwise
  have b : ∀ k : Fin 1024, (View.ld (iblk m c 5 t) (Rect.unit ![0, 0] ![1, 1024] inb_S1x1024_S1x1024_0_0)) (ix2 0 k)
      = (iblk m c 5 t : Vec Ideal S1x1024 .f32) (ix2 0 k) := fun k => by pointwise
  have u : ∀ k : Fin 2048, (View.ld (iblk m c 7 t) (Rect.unit ![0, 0] ![1, 2048] inb_S1x2048_S1x2048_0_0)) (ix2 0 k)
      = (iblk m c 7 t : Vec Ideal S1x2048 .f32) (ix2 0 k) := fun k => by pointwise
  have v : ∀ k : Fin 2048, (View.ld (iblk m c 8 t) (Rect.unit ![0, 0] ![1, 2048] inb_S1x2048_S1x2048_0_0)) (ix2 0 k)
      = (iblk m c 8 t : Vec Ideal S1x2048 .f32) (ix2 0 k) := fun k => by pointwise
  have wa : ∀ (k : Fin 1024) (n : Fin 2048), (View.ld (iblk m c 6 t) (Rect.unit ![0, 0] ![1024, 2048] inb_S2048x2048_S1024x2048_0_0)) (ix2 k n)
      = (iblk m c 6 t : Vec Ideal S2048x2048 .bf16) (ix2 ⟨k.val, by omega⟩ n) := fun k n => by pointwise
  have wb : ∀ (k : Fin 1024) (n : Fin 2048), (View.ld (iblk m c 6 t) (Rect.unit ![1024, 0] ![1024, 2048] inb_S2048x2048_S1024x2048_1024_0)) (ix2 k n)
      = (iblk m c 6 t : Vec Ideal S2048x2048 .bf16) (ix2 ⟨1024 + k.val, by omega⟩ n) := fun k n => by pointwise
  by_cases h : r.val < 256
  · have e : (ix3 0 r n : S1x512x2048.Idx) = (Rect.unit ![0, 0, 0] ![1, 256, 2048] inb_S1x512x2048_S1x256x2048_0_0_0).emb (ix3 0 ⟨r.val, h⟩ n) := by blk_ext
    have x0 : ∀ k : Fin 1024, (View.ld (iblk m c 0 t) (Rect.unit ![0, 0, 0] ![1, 256, 1024] inb_S1x512x1024_S1x256x1024_0_0_0)) (ix3 0 ⟨r.val, h⟩ k)
        = (iblk m c 0 t : Vec Ideal S1x512x1024 .bf16) (ix3 0 r k) := fun k => by pointwise
    have x1 : ∀ k : Fin 1024, (View.ld (iblk m c 1 t) (Rect.unit ![0, 0, 0] ![1, 256, 1024] inb_S1x512x1024_S1x256x1024_0_0_0)) (ix3 0 ⟨r.val, h⟩ k)
        = (iblk m c 1 t : Vec Ideal S1x512x1024 .bf16) (ix3 0 r k) := fun k => by pointwise
    have x2 : ∀ k : Fin 2048, (View.ld (iblk m c 2 t) (Rect.unit ![0, 0, 0] ![1, 256, 2048] inb_S1x512x2048_S1x256x2048_0_0_0)) (ix3 0 ⟨r.val, h⟩ k)
        = (iblk m c 2 t : Vec Ideal S1x512x2048 .f32) (ix3 0 r k) := fun k => by pointwise
    rw [View.canon_cons_of_not_mem _ _ (Rect.not_mem_set_of_axis _ _ 1 256 256 rfl rfl rfl (.inl h)), e,
      View.canon_cons_emb, lower_apply]
    simp only [g, a, b, u, v, wa, wb, x0, x1, x2]
  · obtain ⟨s, hs⟩ : ∃ s : Fin 256, r.val = 256 + s.val := ⟨⟨r.val - 256, by omega⟩, by dsimp only; omega⟩
    have hl : 256 + s.val < 512 := by omega
    obtain rfl : r = ⟨256 + s.val, hl⟩ := Fin.ext hs
    have e : (ix3 0 ⟨256 + s.val, by omega⟩ n : S1x512x2048.Idx) = (Rect.unit ![0, 256, 0] ![1, 256, 2048] inb_S1x512x2048_S1x256x2048_0_256_0).emb (ix3 0 s n) := by blk_ext
    have x0 : ∀ k : Fin 1024, (View.ld (iblk m c 0 t) (Rect.unit ![0, 256, 0] ![1, 256, 1024] inb_S1x512x1024_S1x256x1024_0_256_0)) (ix3 0 s k)
        = (iblk m c 0 t : Vec Ideal S1x512x1024 .bf16) (ix3 0 ⟨256 + s.val, by omega⟩ k) := fun k => by pointwise
    have x1 : ∀ k : Fin 1024, (View.ld (iblk m c 1 t) (Rect.unit ![0, 256, 0] ![1, 256, 1024] inb_S1x512x1024_S1x256x1024_0_256_0)) (ix3 0 s k)
        = (iblk m c 1 t : Vec Ideal S1x512x1024 .bf16) (ix3 0 ⟨256 + s.val, by omega⟩ k) := fun k => by pointwise
    have x2 : ∀ k : Fin 2048, (View.ld (iblk m c 2 t) (Rect.unit ![0, 256, 0] ![1, 256, 2048] inb_S1x512x2048_S1x256x2048_0_256_0)) (ix3 0 s k)
        = (iblk m c 2 t : Vec Ideal S1x512x2048 .f32) (ix3 0 ⟨256 + s.val, by omega⟩ k) := fun k => by pointwise
    rw [e, View.canon_cons_emb, upper_apply]
    simp only [g, a, b, u, v, wa, wb, x0, x1, x2]

set_option maxRecDepth 16384 in
set_option maxHeartbeats 1000000 in
/-- The result array after the run. -/
theorem final (c : Dev nD) : (dats m 0 c).arrAt 11 cfg0.N
    = Cert.MixRefIdeal.Read.val_main_v75 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) := by
  have e0 : ∀ t : Fin cfg0.N, win0_0.index t = ![t.val / 4, t.val % 4, 0] := (by decide +kernel : ∀ t : Fin grid0.N, _)
  have e1 : ∀ t : Fin cfg0.N, win0_1.index t = ![t.val / 4, t.val % 4, 0] := (by decide +kernel : ∀ t : Fin grid0.N, _)
  have e2 : ∀ t : Fin cfg0.N, win0_2.index t = ![t.val / 4, t.val % 4, 0] := (by decide +kernel : ∀ t : Fin grid0.N, _)
  have e11 : ∀ t : Fin cfg0.N, win0_11.index t = ![t.val / 4, t.val % 4, 0] := (by decide +kernel : ∀ t : Fin grid0.N, _)
  have e3 : ∀ t : Fin cfg0.N, win0_3.index t = ![t.val / 4, 0, 0] := (by decide +kernel : ∀ t : Fin grid0.N, _)
  have e4 : ∀ t : Fin cfg0.N, win0_4.index t = ![0, 0] := (by decide +kernel : ∀ t : Fin grid0.N, _)
  have e5 : ∀ t : Fin cfg0.N, win0_5.index t = ![0, 0] := (by decide +kernel : ∀ t : Fin grid0.N, _)
  have e6 : ∀ t : Fin cfg0.N, win0_6.index t = ![0, 0] := (by decide +kernel : ∀ t : Fin grid0.N, _)
  have e7 : ∀ t : Fin cfg0.N, win0_7.index t = ![0, 0] := (by decide +kernel : ∀ t : Fin grid0.N, _)
  have e8 : ∀ t : Fin cfg0.N, win0_8.index t = ![0, 0] := (by decide +kernel : ∀ t : Fin grid0.N, _)
  refine (dats m 0 c).arrAt_eq_of_covers 11 _ (by decide +kernel) fun t hf y => ?_
  blk_simp
  rw [after0_11]
  have ht : t.val < 64 := t.isLt
  change S1x512x2048.Idx at y
  obtain ⟨z, r, n, rfl⟩ : ∃ (z : Fin 1) (r : Fin 512) (n : Fin 2048), y = ix3 z r n := ⟨y 0, y 1, y 2, eq_ix3 y⟩
  obtain rfl : z = 0 := Subsingleton.elim _ _
  have hr := r.isLt
  obtain ⟨B, hB⟩ : ∃ B : Fin 16, B.val = t.val / 4 := ⟨⟨t.val / 4, by omega⟩, rfl⟩
  obtain ⟨R, hR⟩ : ∃ R : Fin 2048, R.val = t.val % 4 * 512 + r.val := ⟨⟨t.val % 4 * 512 + r.val, by omega⟩, rfl⟩
  have e : ((View.whole main_v27_0).slice (win0_11.rect t)).emb (ix3 0 r n) = ix3 B R n := by
    blk_ext [e11, hB, hR]
  have h0 : ∀ k : Fin 1024, (iblk m c 0 t : Vec Ideal S1x512x1024 .bf16) (ix3 0 r k)
      = (m ((c : Thread nD τ).loc main_arg0) : Vec Ideal S16x2048x1024 .bf16) (ix3 B R k) := fun k => by
    blk_simp [iblk]
    rw [V_main_arg0]
    exact congrArg _ (by blk_ext [e0, hB, hR])
  have h1 : ∀ k : Fin 1024, (iblk m c 1 t : Vec Ideal S1x512x1024 .bf16) (ix3 0 r k)
      = (m ((c : Thread nD τ).loc main_arg1) : Vec Ideal S16x2048x1024 .bf16) (ix3 B R k) := fun k => by
    blk_simp [iblk]
    rw [V_main_arg1]
    exact congrArg _ (by blk_ext [e1, hB, hR])
  have h2 : ∀ k : Fin 2048, (iblk m c 2 t : Vec Ideal S1x512x2048 .f32) (ix3 0 r k)
      = (m ((c : Thread nD τ).loc main_arg2) : Vec Ideal S16x2048x2048 .f32) (ix3 B R k) := fun k => by
    blk_simp [iblk]
    rw [V_main_arg2]
    exact congrArg _ (by blk_ext [e2, hB, hR])
  have h3 : ∀ k : Fin 2048, (iblk m c 3 t : Vec Ideal S1x6x2048 .f32) (ix3 0 2 k)
      = (m ((c : Thread nD τ).loc main_arg3) : Vec Ideal S16x12288 .f32) (ix2 B ⟨4096 + k.val, by omega⟩) := fun k => by
    blk_simp [iblk]
    refine Eq.trans (congrArg _ ?_) (mod_apply m c B 2 k)
    blk_ext [e3, hB]
  have h4 : ∀ k : Fin 1024, (iblk m c 4 t : Vec Ideal S1x1024 .f32) (ix2 0 k)
      = (m ((c : Thread nD τ).loc main_arg4) : Vec Ideal S1x1024 .f32) (ix2 0 (row k)) := fun k => by
    blk_simp [iblk]
    refine Eq.trans (congrArg _ ?_) (na_apply m c k)
    blk_ext [e4]
  have h6 : ∀ (k : Fin 1024) (n : Fin 2048), (iblk m c 6 t : Vec Ideal S2048x2048 .bf16) (ix2 ⟨k.val, by omega⟩ n)
      = (m ((c : Thread nD τ).loc main_arg6) : Vec Ideal S1x2048x2048 .f32) (ix3 0 ⟨(row k).val, by omega⟩ n) := fun k n => by
    blk_simp [iblk]
    refine Eq.trans (congrArg _ ?_) (wa_apply m c k n)
    blk_ext [e6]
  have h6' : ∀ (k : Fin 1024) (n : Fin 2048), (iblk m c 6 t : Vec Ideal S2048x2048 .bf16) (ix2 ⟨1024 + k.val, by omega⟩ n)
      = (m ((c : Thread nD τ).loc main_arg6) : Vec Ideal S1x2048x2048 .f32) (ix3 0 ⟨1024 + k.val, by omega⟩ n) := fun k n => by
    blk_simp [iblk]
    refine Eq.trans (congrArg _ ?_) (wb_apply m c k n)
    blk_ext [e6]
  have h5 : ∀ k : Fin 1024, (iblk m c 5 t : Vec Ideal S1x1024 .f32) (ix2 0 k)
      = (m ((c : Thread nD τ).loc main_arg5) : Vec Ideal S1x1024 .f32) (ix2 0 k) := fun k => by
    blk_simp [iblk]
    rw [V_main_arg5]
    exact congrArg _ (by blk_ext [e5])
  have h7 : ∀ k : Fin 2048, (iblk m c 7 t : Vec Ideal S1x2048 .f32) (ix2 0 k)
      = (m ((c : Thread nD τ).loc main_arg7) : Vec Ideal S1x2048 .f32) (ix2 0 k) := fun k => by
    blk_simp [iblk]
    rw [V_main_arg7]
    exact congrArg _ (by blk_ext [e7])
  have h8 : ∀ k : Fin 2048, (iblk m c 8 t : Vec Ideal S1x2048 .f32) (ix2 0 k)
      = (m ((c : Thread nD τ).loc main_arg8) : Vec Ideal S1x2048 .f32) (ix2 0 k) := fun k => by
    blk_simp [iblk]
    rw [V_main_arg8]
    exact congrArg _ (by blk_ext [e8])
  rw [e, outs_apply, ref_apply]
  simp only [h0, h1, h2, h3, h4, h5, h6, h6', h7, h8]

theorem run_blocks (ρ : Dev nD → PrngReg) : θ_run defs (onTc (τ := τ) (main (F := Ideal))) ⟨m, fun _ => 0, ρ⟩ fun r => ∀ c : Dev nD,
      r.2.mem ((c.tc : Thread nD τ).loc main_v27_0) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h.1 c).1 11, h.2 c⟩) (θ_run_and (run_main m ρ) (unchanged m ρ))

/-- The kernel and the plain text, from the same arguments, end with the same array. -/
theorem algebraic : Cert.algebraic_MixIdeal_MixRefIdeal
    (hMixIdeal := Cert.MixIdeal.Gen.facts) (hMixRefIdeal := Cert.MixRefIdeal.Gen.facts) := by
  intro m g m' g' _ h
  refine ⟨fun c => (dats m 0 c).arrAt 11 cfg0.N, run_blocks m g, ?_⟩
  refine (θ_run Cert.MixRefIdeal.defs _ _).mono (fun r h' c => ⟨?_, (h' c).2⟩) (Cert.MixRefIdeal.Value.run (F := Ideal) m' g')
  obtain ⟨a0, a1, a2, a3, a4, a5, a6, a7, a8, -⟩ := h c
  refine (h' c).1.trans ((Cert.MixRefIdeal.Read.val_main_v75_eq m' c).trans ?_)
  rw [a0, a1, a2, a3, a4, a5, a6, a7, a8]
  exact (final m c).symm

end Cert.Proof.MixIdeal

end
-- ==== Proof.lean ====
module

public import proofs.«01_k».proof.Defs
public import proofs.«01_k».proof.Proof.Qkv
public import proofs.«01_k».proof.Proof.Ada
public import proofs.«01_k».proof.Proof.Swa
public import proofs.«01_k».proof.Proof.Bias
public import proofs.«01_k».proof.Proof.MixRun
public import proofs.«01_k».proof.Proof.MixIdealRun
public import proofs.«01_k».proof.Proof.MixValue
public import proofs.«01_k».proof.Proof.Gen.Qkv.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.Swa.Frame
public import proofs.«01_k».proof.Proof.Gen.SwaIdeal.Value
public import proofs.«01_k».proof.Proof.Gen.SwaRefIdeal.Run
public import proofs.«01_k».proof.Proof.Gen.SwaRefIdeal.Read
public import proofs.«01_k».proof.Proof.Gen.Pre_finite_banded
public import proofs.«01_k».proof.Proof.Gen.Bias.Frame
public import proofs.«01_k».proof.Proof.Gen.BiasIdeal.Value
public import proofs.«01_k».proof.Proof.Gen.BiasRefIdeal.Run
public import proofs.«01_k».proof.Proof.Gen.BiasRefIdeal.Read
public import proofs.«01_k».proof.Proof.Gen.Mix.Frame
public import proofs.«01_k».proof.Proof.Gen.Mix.Skeleton
public import proofs.«01_k».proof.Proof.Gen.MixIdeal.Skeleton
public import proofs.«01_k».proof.Proof.Gen.MixIdeal.Frame
public import proofs.«01_k».proof.Proof.Gen.MixRefIdeal.Run
public import proofs.«01_k».proof.Proof.Gen.MixRefIdeal.Read
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

/-- The plain texts run to the end and leave their arguments and the semaphores alone. -/
theorem quiescent_qkvRef : Cert.quiescent_QkvRefIdeal (hQkvRefIdeal := Cert.QkvRefIdeal.Gen.facts) := fun m g _ =>
  (θ_run Cert.QkvRefIdeal.defs _ _).mono (fun r h => ⟨fun c => (h c).2, sem_eq_zero_of_no_sems (by decide) r.2⟩)
    (Cert.QkvRefIdeal.Value.run (F := Ideal) m g)

theorem quiescent_adaRef : Cert.quiescent_AdaRefIdeal (hAdaRefIdeal := Cert.AdaRefIdeal.Gen.facts) := fun m g _ =>
  (θ_run Cert.AdaRefIdeal.defs _ _).mono (fun r h => ⟨fun c => (h c).2, sem_eq_zero_of_no_sems (by decide) r.2⟩)
    (Cert.AdaRefIdeal.Value.run (F := Ideal) m g)

theorem quiescent_mixRef : Cert.quiescent_MixRefIdeal (hMixRefIdeal := Cert.MixRefIdeal.Gen.facts) := fun m g _ =>
  (θ_run Cert.MixRefIdeal.defs _ _).mono (fun r h => ⟨fun c => (h c).2, sem_eq_zero_of_no_sems (by decide) r.2⟩)
    (Cert.MixRefIdeal.Value.run (F := Ideal) m g)

theorem quiescent_biasRef : Cert.quiescent_BiasRefIdeal (hBiasRefIdeal := Cert.BiasRefIdeal.Gen.facts) := fun m g _ =>
  (θ_run Cert.BiasRefIdeal.defs _ _).mono (fun r h => ⟨fun c => (h c).2, sem_eq_zero_of_no_sems (by decide) r.2⟩)
    (Cert.BiasRefIdeal.Value.run (F := Ideal) m g)

theorem quiescent_swaRef : Cert.quiescent_SwaRefIdeal (hSwaRefIdeal := Cert.SwaRefIdeal.Gen.facts) := fun m g _ =>
  (θ_run Cert.SwaRefIdeal.defs _ _).mono (fun r h => ⟨fun c => (h c).2, sem_eq_zero_of_no_sems (by decide) r.2⟩)
    (Cert.SwaRefIdeal.Value.run (F := Ideal) m g)

/-- The rewritten buffer, the rows stored as words, and the pack are what they were. -/
theorem preserves_mix : Cert.preserves_Mix_MixIdeal :=
  ⟨IdealRules.bf16_pair.bufferStatement Cert.MixIdeal.S16x16384x2x128 Cert.MixIdeal.S16x16384x1x128,
    IdealRules.bf16_pair.bufferStatement Cert.MixIdeal.S1x4096x2x128 Cert.MixIdeal.S1x4096x1x128,
    IdealRules.bf16_pair.statement Cert.MixIdeal.S256x2x128 Cert.MixIdeal.S256x1x128,
    IdealRules.bf16_pack.statement Cert.MixIdeal.S256x128⟩

/-- The constant that stands for −∞ is −∞. -/
theorem preserves_bias : Cert.preserves_Bias_BiasIdeal :=
  IdealRules.named_const.statement Cert.BiasIdeal.κ "mask" .f32 0xF149F2CA#32 ⊥ rfl

theorem claim : Cert.Claim :=
  ⟨Cert.Qkv.Gen.facts, Cert.QkvIdeal.Gen.facts, Cert.QkvRefIdeal.Gen.facts, Cert.Ada.Gen.facts, Cert.AdaIdeal.Gen.facts,
    Cert.AdaRefIdeal.Gen.facts, Cert.Mix.Gen.facts, Cert.MixIdeal.Gen.facts, Cert.MixRefIdeal.Gen.facts,
    Cert.Bias.Gen.facts, Cert.BiasIdeal.Gen.facts, Cert.BiasRefIdeal.Gen.facts,
    Cert.Swa.Gen.facts, Cert.SwaIdeal.Gen.facts, Cert.SwaRefIdeal.Gen.facts, Cert.Pre_finite_banded.Gen.facts,
    fun m g _ => Cert.Qkv.Gen.frame m g, fun m g _ => Cert.QkvIdeal.Gen.frame m g, quiescent_qkvRef,
    fun m g _ => Cert.Ada.Gen.frame m g, fun m g _ => Cert.AdaIdeal.Gen.frame m g, quiescent_adaRef,
    fun m g _ => Mix.quiescent m g, fun m g _ => MixIdeal.quiescent m g, quiescent_mixRef,
    fun m g _ => Cert.Bias.Gen.frame m g, fun m g _ => Cert.BiasIdeal.Gen.frame m g, quiescent_biasRef,
    fun m g _ => Cert.Swa.Gen.frame m g, fun m g _ => Cert.SwaIdeal.Gen.frame m g, fun m g _ => Cert.SwaIdeal.Gen.frame m g,
    quiescent_swaRef, fun m g _ => quiescent_swaRef m g trivial,
    trivial, Qkv.algebraic, trivial, Ada.algebraic, preserves_mix, MixIdeal.algebraic, preserves_bias, Bias.algebraic, trivial, Swa.algebraic⟩

end Cert.Proof

end
